-- ==== Defs.lean ====
def Pre_Kernel [hPre_ids_in_range : Cert.Pre_ids_in_range.Facts] (m : (ℓ : Loc Cert.Kernel.nD Cert.Kernel.τ Cert.Kernel.sig) → Buf (Elt Bits) ℓ) : Prop :=
  ∀ c : Dev Cert.Kernel.nD,
    (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_ids_sorted_bias_finite [hPre_ids_sorted_bias_finite : Cert.Pre_ids_sorted_bias_finite.Facts] (m : (ℓ : Loc Cert.KernelIdeal.nD Cert.KernelIdeal.τ Cert.KernelIdeal.sig) → Buf (Elt Ideal) ℓ) : Prop :=
  ∀ c : Dev Cert.KernelIdeal.nD,
    (Cert.Pre_ids_sorted_bias_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_sorted_bias_finite [hPre_ids_sorted_bias_finite : Cert.Pre_ids_sorted_bias_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_sorted_bias_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_ids_sorted_bias_finite [hKernelIdeal : Cert.KernelIdeal.Facts] [hPre_ids_sorted_bias_finite : Cert.Pre_ids_sorted_bias_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_sorted_bias_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_ids_sorted_bias_finite [hReferenceIdeal : Cert.ReferenceIdeal.Facts] [hPre_ids_sorted_bias_finite : Cert.Pre_ids_sorted_bias_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_sorted_bias_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_ids_sorted_bias_finite [hKernelIdeal : Cert.KernelIdeal.Facts] [hReferenceIdeal : Cert.ReferenceIdeal.Facts] [hPre_ids_sorted_bias_finite : Cert.Pre_ids_sorted_bias_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_sorted_bias_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_ids_in_range : Cert.Pre_ids_in_range.Facts) (hPre_ids_sorted_bias_finite : Cert.Pre_ids_sorted_bias_finite.Facts),
    quiescent_Kernel (hKernel := hKernel) (hPre_ids_in_range := hPre_ids_in_range)
    ∧ quiescent_KernelIdeal (hKernelIdeal := hKernelIdeal) (hPre_ids_in_range := hPre_ids_in_range)
    ∧ quiescent_KernelIdeal_pre_ids_sorted_bias_finite (hKernelIdeal := hKernelIdeal) (hPre_ids_sorted_bias_finite := hPre_ids_sorted_bias_finite)
    ∧ quiescent_ReferenceIdeal (hReferenceIdeal := hReferenceIdeal)
    ∧ quiescent_ReferenceIdeal_pre_ids_sorted_bias_finite (hReferenceIdeal := hReferenceIdeal) (hPre_ids_sorted_bias_finite := hPre_ids_sorted_bias_finite)
    ∧ preserves_Kernel_KernelIdeal
    ∧ algebraic_KernelIdeal_ReferenceIdeal_pre_ids_sorted_bias_finite (hKernelIdeal := hKernelIdeal) (hReferenceIdeal := hReferenceIdeal) (hPre_ids_sorted_bias_finite := hPre_ids_sorted_bias_finite)
-- ==== Pre_ids_in_range.lean ====
abbrev S16384x256 : Shape := ⟨2, ![16384, 256]⟩
abbrev S256x512 : Shape := ⟨2, ![256, 512]⟩
abbrev S512 : Shape := ⟨1, ![512]⟩
abbrev S16384 : Shape := ⟨1, ![16384]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : FVec F S16384x256 .f32) (main_arg1 : FVec F S256x512 .f32) (main_arg2 : FVec F S512 .f32) (main_arg3 : IVec S16384 32) : IVec S_ 1 :=
  let main_c : IVec S_ 32 := constantI S_ 32 0#32
  let main_v0 : IVec S16384 32 := broadcastInDim S16384 ![] bcast_S_S16384 main_c
  let main_v1 : IVec S16384 1 := cmpi .sge main_arg3 main_v0
  let main_c_0 : IVec S_ 32 := constantI S_ 32 16#32
  let main_v2 : IVec S16384 32 := broadcastInDim S16384 ![] bcast_S_S16384 main_c_0
  let main_v3 : IVec S16384 1 := cmpi .slt main_arg3 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  main_v5
-- ==== Pre_ids_sorted_bias_finite.lean ====
abbrev S16384x256 : Shape := ⟨2, ![16384, 256]⟩
abbrev S256x512 : Shape := ⟨2, ![256, 512]⟩
abbrev S512 : Shape := ⟨1, ![512]⟩
abbrev S16384 : Shape := ⟨1, ![16384]⟩
abbrev S_ : Shape := ⟨0, ![]⟩
abbrev S16383 : Shape := ⟨1, ![16383]⟩

class Facts : Prop where
  bcast_S_S16384 : S_.BroadcastsInDim S16384 (![] : Fin 0 → Fin S16384.rank)
  reducesTo_S16384_S_d0 : S16384.ReducesTo [0] S_
  h_S_ : 0 < S_.numel
  slices_S16384_S16383_1 : S16384.Slices ![1] S16383
  slices_S16384_S16383_0 : S16384.Slices ![0] S16383
  reducesTo_S16383_S_d0 : S16383.ReducesTo [0] S_
  bcast_S_S512 : S_.BroadcastsInDim S512 (![] : Fin 0 → Fin S512.rank)
  reducesTo_S512_S_d0 : S512.ReducesTo [0] S_

variable [Facts]

def fn {F : FTy → Type} [FloatOps F] (main_arg0 : FVec F S16384x256 .f32) (main_arg1 : FVec F S256x512 .f32) (main_arg2 : FVec F S512 .f32) (main_arg3 : IVec S16384 32) : IVec S_ 1 :=
  let main_c : IVec S_ 32 := constantI S_ 32 0#32
  let main_v0 : IVec S16384 32 := broadcastInDim S16384 ![] bcast_S_S16384 main_c
  let main_v1 : IVec S16384 1 := cmpi .sge main_arg3 main_v0
  let main_c_0 : IVec S_ 32 := constantI S_ 32 16#32
  let main_v2 : IVec S16384 32 := broadcastInDim S16384 ![] bcast_S_S16384 main_c_0
  let main_v3 : IVec S16384 1 := cmpi .slt main_arg3 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  let main_v6 : IVec S16383 32 := (extractStridedSlice S16383 ![1] · slices_S16384_S16383_1) main_arg3
  let main_v7 : IVec S16383 32 := (extractStridedSlice S16383 ![0] · slices_S16384_S16383_0) main_arg3
  let main_v8 : IVec S16383 1 := cmpi .sge main_v6 main_v7
  let main_c_2 : IVec S_ 1 := constantI S_ 1 1#1
  let main_v9 : IVec S_ 1 := (fun x v => Host.reduce IntOp.andi x v reducesTo_S16383_S_d0 h_S_) main_v8 main_c_2
  let main_v10 : FVec F S512 .f32 := Host.absf main_arg2
  let main_cst : FVec F S_ .f32 := constant S_ .f32 0x7F800000#32
  let main_v11 : FVec F S512 .f32 := broadcastInDim S512 ![] bcast_S_S512 main_cst
  let main_v12 : IVec S512 1 := cmpf .olt main_v10 main_v11
  let main_c_3 : IVec S_ 1 := constantI S_ 1 1#1
  let main_v13 : IVec S_ 1 := (fun x v => Host.reduce IntOp.andi x v reducesTo_S512_S_d0 h_S_) main_v12 main_c_3
  let main_v14 : IVec S_ 1 := andi main_v5 main_v9
  let main_v15 : IVec S_ 1 := andi main_v14 main_v13
  main_v15
-- ==== Kernel.lean ====
abbrev S16384x256 : Shape := ⟨2, ![16384, 256]⟩
abbrev S256x512 : Shape := ⟨2, ![256, 512]⟩
abbrev S512 : Shape := ⟨1, ![512]⟩
abbrev S16384 : Shape := ⟨1, ![16384]⟩
abbrev S64 : Shape := ⟨1, ![64]⟩
abbrev S64x1 : Shape := ⟨2, ![64, 1]⟩
abbrev S64x2 : Shape := ⟨2, ![64, 2]⟩
abbrev S128 : Shape := ⟨1, ![128]⟩
abbrev S16384x1 : Shape := ⟨2, ![16384, 1]⟩
abbrev S1x512 : Shape := ⟨2, ![1, 512]⟩
abbrev S16x512 : Shape := ⟨2, ![16, 512]⟩
abbrev S2048x1 : Shape := ⟨2, ![2048, 1]⟩
abbrev S2048x256 : Shape := ⟨2, ![2048, 256]⟩
abbrev S256x256 : Shape := ⟨2, ![256, 256]⟩
abbrev S256x1 : Shape := ⟨2, ![256, 1]⟩
abbrev S1 : Shape := ⟨1, ![1]⟩
abbrev S16 : Shape := ⟨1, ![16]⟩

abbrev nBuf : Space → Nat
  | .hbm => 14
  | .vmem => 7
  | .smem => 1
  | _ => 0

abbrev bufTy : (tb : Table) → Fin (tcTables nBuf tb) → BufTy
  | .hbm, ⟨0, _⟩ => ⟨S16384x256, .f32⟩
  | .hbm, ⟨1, _⟩ => ⟨S256x512, .f32⟩
  | .hbm, ⟨2, _⟩ => ⟨S512, .f32⟩
  | .hbm, ⟨3, _⟩ => ⟨S16384, .i32⟩
  | .hbm, ⟨4, _⟩ => ⟨S64, .i32⟩
  | .hbm, ⟨5, _⟩ => ⟨S64, .i32⟩
  | .hbm, ⟨6, _⟩ => ⟨S64x1, .i32⟩
  | .hbm, ⟨7, _⟩ => ⟨S64x1, .i32⟩
  | .hbm, ⟨8, _⟩ => ⟨S64x2, .i32⟩
  | .hbm, ⟨9, _⟩ => ⟨S16384x1, .i32⟩
  | .hbm, ⟨10, _⟩ => ⟨S256x512, .bf16⟩
  | .hbm, ⟨11, _⟩ => ⟨S1x512, .f32⟩
  | .hbm, ⟨12, _⟩ => ⟨S16x512, .f32⟩
  | .hbm, ⟨13, _⟩ => ⟨S16, .i32⟩
  | .local _ .vmem, ⟨0, _⟩ => ⟨S2048x1, .i32⟩
  | .local _ .vmem, ⟨1, _⟩ => ⟨S2048x1, .i32⟩
  | .local _ .vmem, ⟨2, _⟩ => ⟨S2048x256, .f32⟩
  | .local _ .vmem, ⟨3, _⟩ => ⟨S2048x256, .f32⟩
  | .local _ .vmem, ⟨4, _⟩ => ⟨S256x512, .bf16⟩
  | .local _ .vmem, ⟨5, _⟩ => ⟨S1x512, .f32⟩
  | .local _ .vmem, ⟨6, _⟩ => ⟨S16x512, .f32⟩
  | .local _ .smem, ⟨0, _⟩ => ⟨S128, .i32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_v5.idx], fun | 0 => main_v5.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let c2_i32 : BitVec 32 := 2#32
  let arg0 : BitVec 32 := BitVec.ofNat 32 (i 0).val
  let c8_i32 : BitVec 32 := 8#32
  let v10 : BitVec 32 := Scalar.muli arg0 c8_i32
  let c0_i32_6 : BitVec 32 := 0#32
  let v11 : BitVec 32 := Scalar.addi v10 c0_i32_6
  let v12 : BitVec 32 := Scalar.muli c2_i32 v11
  let v13 : Index := Scalar.indexCast v12
  ![v13.toNat]
def k0_off2 (i : grid0.Coords) : Fin 1 → Nat :=
  let c2_i32_7 : BitVec 32 := 2#32
  let arg0 : BitVec 32 := BitVec.ofNat 32 (i 0).val
  let c8_i32 : BitVec 32 := 8#32
  let v10 : BitVec 32 := Scalar.muli arg0 c8_i32
  let c0_i32_6 : BitVec 32 := 0#32
  let v11 : BitVec 32 := Scalar.addi v10 c0_i32_6
  let v15 : BitVec 32 := Scalar.muli c2_i32_7 v11
  let c1_i32 : BitVec 32 := 1#32
  let v16 : BitVec 32 := Scalar.addi v15 c1_i32
  let v17 : Index := Scalar.indexCast v16
  ![v17.toNat]
def k0_off3 (v14 : BitVec 32) : Fin 2 → Nat :=
  let v27 : Index := Scalar.indexCast v14
  let c0_10 : Index := 0#32
  ![v27.toNat, 0]

def k0_chk1 (v14 : BitVec 32) : Prop :=
  (∀ a, (k0_off3 v14) a + S1x512.size a ≤ S16x512.size a)
theorem k0_off3_inb : ∀ (v14 : BitVec 32) (k0_hw1 : k0_chk1 v14), ∀ a, (k0_off3 v14) a + S1x512.size a ≤ S16x512.size a := fun v14 k0_hw1 => k0_hw1

def k0_off4 (v18 : BitVec 32) : Fin 2 → Nat :=
  let v41 : Index := Scalar.indexCast v18
  let c0_14 : Index := 0#32
  ![v41.toNat, 0]

@[reducible] def k0_t1_loop (v14 : BitVec 32) (v18 : BitVec 32) : Scf.Loop 32 :=
  let c1_i32_148 : BitVec 32 := 1#32
  let v376 : BitVec 32 := Scalar.addi v14 c1_i32_148
  let v377 : BitVec 32 := Scalar.subi v18 v376
  let c1_i32_150 : BitVec 32 := 1#32
  let v379 : BitVec 32 := Scalar.divsi v377 c1_i32_150
  let v380 : BitVec 32 := Scalar.muli v379 c1_i32_150
  let v381 : BitVec 32 := Scalar.addi v376 v380
  let c1_i32_151 : BitVec 32 := 1#32
  ⟨v376, v381, c1_i32_151⟩
def k0_cond2 (v14 : BitVec 32) (v18 : BitVec 32) : BitVec 1 :=
  let v47 : BitVec 32 := Scalar.subi v18 v14
  let c2_i32_16 : BitVec 32 := 2#32
  let v48 : BitVec 1 := Scalar.cmpi .sge v47 c2_i32_16
  let v49 : BitVec 32 := Scalar.extui v48
  let c0_i32_17 : BitVec 32 := 0#32
  let v50 : BitVec 1 := Scalar.cmpi .ne v49 c0_i32_17
  v50

def k0_off5 (v14 : BitVec 32) (v18 : BitVec 32) (k0_t1 : Fin (k0_t1_loop v14 v18).trips) : Fin 2 → Nat :=
  let c1_i32_148 : BitVec 32 := 1#32
  let v376 : BitVec 32 := Scalar.addi v14 c1_i32_148
  let c1_i32_151 : BitVec 32 := 1#32
  let arg7 : BitVec 32 := Scf.iv v376 c1_i32_151 k0_t1
  let v390 : Index := Scalar.indexCast arg7
  let c0_155 : Index := 0#32
  ![v390.toNat, 0]
@[reducible] def k0_t2_loop (v14 : BitVec 32) (v18 : BitVec 32) : Scf.Loop 32 :=
  let c1_i32_148 : BitVec 32 := 1#32
  let v376 : BitVec 32 := Scalar.addi v14 c1_i32_148
  let v377 : BitVec 32 := Scalar.subi v18 v376
  let c1_i32_150 : BitVec 32 := 1#32
  let v379 : BitVec 32 := Scalar.divsi v377 c1_i32_150
  let v380 : BitVec 32 := Scalar.muli v379 c1_i32_150
  let v381 : BitVec 32 := Scalar.addi v376 v380
  let v378 : BitVec 32 := Scalar.addi v376 v377
  let c1_i32_152 : BitVec 32 := 1#32
  ⟨v381, v378, c1_i32_152⟩
def k0_off6 (v14 : BitVec 32) (v18 : BitVec 32) (k0_t2 : Fin (k0_t2_loop v14 v18).trips) : Fin 2 → Nat :=
  let c1_i32_148 : BitVec 32 := 1#32
  let v376 : BitVec 32 := Scalar.addi v14 c1_i32_148
  let v377 : BitVec 32 := Scalar.subi v18 v376
  let c1_i32_150 : BitVec 32 := 1#32
  let v379 : BitVec 32 := Scalar.divsi v377 c1_i32_150
  let v380 : BitVec 32 := Scalar.muli v379 c1_i32_150
  let v381 : BitVec 32 := Scalar.addi v376 v380
  let c1_i32_152 : BitVec 32 := 1#32
  let arg7 : BitVec 32 := Scf.iv v381 c1_i32_152 k0_t2
  let v390 : Index := Scalar.indexCast arg7
  let c0_155 : Index := 0#32
  ![v390.toNat, 0]

def k0_chk2 (v14 : BitVec 32) (v18 : BitVec 32) : Prop :=
  (∀ a, (k0_off4 v18) a + S1x512.size a ≤ S16x512.size a) ∧
  (∀ (k0_h2 : k0_cond2 v14 v18 = 1#1), (k0_t1_loop v14 v18).OK) ∧
  (∀ k0_t1 : Fin (k0_t1_loop v14 v18).trips, ∀ (k0_h2 : k0_cond2 v14 v18 = 1#1), ∀ a, (k0_off5 v14 v18 k0_t1) a + S1x512.size a ≤ S16x512.size a) ∧
  (∀ (k0_h2 : k0_cond2 v14 v18 = 1#1), (k0_t2_loop v14 v18).OK) ∧
  (∀ k0_t2 : Fin (k0_t2_loop v14 v18).trips, ∀ (k0_h2 : k0_cond2 v14 v18 = 1#1), ∀ a, (k0_off6 v14 v18 k0_t2) a + S1x512.size a ≤ S16x512.size a)
theorem k0_off4_inb : ∀ (v14 : BitVec 32) (v18 : BitVec 32) (k0_hw2 : k0_chk2 v14 v18), ∀ a, (k0_off4 v18) a + S1x512.size a ≤ S16x512.size a := fun v14 v18 k0_hw2 => k0_hw2.1
theorem k0_t1_ok : ∀ (v14 : BitVec 32) (v18 : BitVec 32) (k0_hw2 : k0_chk2 v14 v18), ∀ (k0_h2 : k0_cond2 v14 v18 = 1#1), (k0_t1_loop v14 v18).OK := fun v14 v18 k0_hw2 k0_h2 => k0_hw2.2.1 k0_h2
theorem k0_off5_inb : ∀ (v14 : BitVec 32) (v18 : BitVec 32) (k0_hw2 : k0_chk2 v14 v18) (k0_t1 : Fin (k0_t1_loop v14 v18).trips), ∀ (k0_h2 : k0_cond2 v14 v18 = 1#1), ∀ a, (k0_off5 v14 v18 k0_t1) a + S1x512.size a ≤ S16x512.size a := fun v14 v18 k0_hw2 k0_t1 k0_h2 => k0_hw2.2.2.1 k0_t1 k0_h2
theorem k0_t2_ok : ∀ (v14 : BitVec 32) (v18 : BitVec 32) (k0_hw2 : k0_chk2 v14 v18), ∀ (k0_h2 : k0_cond2 v14 v18 = 1#1), (k0_t2_loop v14 v18).OK := fun v14 v18 k0_hw2 k0_h2 => k0_hw2.2.2.2.1 k0_h2
theorem k0_off6_inb : ∀ (v14 : BitVec 32) (v18 : BitVec 32) (k0_hw2 : k0_chk2 v14 v18) (k0_t2 : Fin (k0_t2_loop v14 v18).trips), ∀ (k0_h2 : k0_cond2 v14 v18 = 1#1), ∀ a, (k0_off6 v14 v18 k0_t2) a + S1x512.size a ≤ S16x512.size a := fun v14 v18 k0_hw2 k0_t2 k0_h2 => k0_hw2.2.2.2.2 k0_t2 k0_h2

def k0_off7 (i : grid0.Coords) : Fin 1 → Nat :=
  let c2_i32_24 : BitVec 32 := 2#32
  let arg0 : BitVec 32 := BitVec.ofNat 32 (i 0).val
  let c8_i32_22 : BitVec 32 := 8#32
  let v56 : BitVec 32 := Scalar.muli arg0 c8_i32_22
  let c1_i32_23 : BitVec 32 := 1#32
  let v57 : BitVec 32 := Scalar.addi v56 c1_i32_23
  let v58 : BitVec 32 := Scalar.muli c2_i32_24 v57
  let v59 : Index := Scalar.indexCast v58
  ![v59.toNat]
def k0_off8 (i : grid0.Coords) : Fin 1 → Nat :=
  let c2_i32_25 : BitVec 32 := 2#32
  let arg0 : BitVec 32 := BitVec.ofNat 32 (i 0).val
  let c8_i32_22 : BitVec 32 := 8#32
  let v56 : BitVec 32 := Scalar.muli arg0 c8_i32_22
  let c1_i32_23 : BitVec 32 := 1#32
  let v57 : BitVec 32 := Scalar.addi v56 c1_i32_23
  let v61 : BitVec 32 := Scalar.muli c2_i32_25 v57
  let c1_i32_26 : BitVec 32 := 1#32
  let v62 : BitVec 32 := Scalar.addi v61 c1_i32_26
  let v63 : Index := Scalar.indexCast v62
  ![v63.toNat]
def k0_off9 (v60 : BitVec 32) : Fin 2 → Nat :=
  let v73 : Index := Scalar.indexCast v60
  let c0_29 : Index := 0#32
  ![v73.toNat, 0]

def k0_chk3 (v60 : BitVec 32) : Prop :=
  (∀ a, (k0_off9 v60) a + S1x512.size a ≤ S16x512.size a)
theorem k0_off9_inb : ∀ (v60 : BitVec 32) (k0_hw3 : k0_chk3 v60), ∀ a, (k0_off9 v60) a + S1x512.size a ≤ S16x512.size a := fun v60 k0_hw3 => k0_hw3

def k0_off10 (v64 : BitVec 32) : Fin 2 → Nat :=
  let v87 : Index := Scalar.indexCast v64
  let c0_33 : Index := 0#32
  ![v87.toNat, 0]

@[reducible] def k0_t3_loop (v60 : BitVec 32) (v64 : BitVec 32) : Scf.Loop 32 :=
  let c1_i32_148 : BitVec 32 := 1#32
  let v376 : BitVec 32 := Scalar.addi v60 c1_i32_148
  let v377 : BitVec 32 := Scalar.subi v64 v376
  let c1_i32_150 : BitVec 32 := 1#32
  let v379 : BitVec 32 := Scalar.divsi v377 c1_i32_150
  let v380 : BitVec 32 := Scalar.muli v379 c1_i32_150
  let v381 : BitVec 32 := Scalar.addi v376 v380
  let c1_i32_151 : BitVec 32 := 1#32
  ⟨v376, v381, c1_i32_151⟩
def k0_cond3 (v60 : BitVec 32) (v64 : BitVec 32) : BitVec 1 :=
  let v93 : BitVec 32 := Scalar.subi v64 v60
  let c2_i32_35 : BitVec 32 := 2#32
  let v94 : BitVec 1 := Scalar.cmpi .sge v93 c2_i32_35
  let v95 : BitVec 32 := Scalar.extui v94
  let c0_i32_36 : BitVec 32 := 0#32
  let v96 : BitVec 1 := Scalar.cmpi .ne v95 c0_i32_36
  v96

def k0_off11 (v60 : BitVec 32) (v64 : BitVec 32) (k0_t3 : Fin (k0_t3_loop v60 v64).trips) : Fin 2 → Nat :=
  let c1_i32_148 : BitVec 32 := 1#32
  let v376 : BitVec 32 := Scalar.addi v60 c1_i32_148
  let c1_i32_151 : BitVec 32 := 1#32
  let arg7 : BitVec 32 := Scf.iv v376 c1_i32_151 k0_t3
  let v390 : Index := Scalar.indexCast arg7
  let c0_155 : Index := 0#32
  ![v390.toNat, 0]
@[reducible] def k0_t4_loop (v60 : BitVec 32) (v64 : BitVec 32) : Scf.Loop 32 :=
  let c1_i32_148 : BitVec 32 := 1#32
  let v376 : BitVec 32 := Scalar.addi v60 c1_i32_148
  let v377 : BitVec 32 := Scalar.subi v64 v376
  let c1_i32_150 : BitVec 32 := 1#32
  let v379 : BitVec 32 := Scalar.divsi v377 c1_i32_150
  let v380 : BitVec 32 := Scalar.muli v379 c1_i32_150
  let v381 : BitVec 32 := Scalar.addi v376 v380
  let v378 : BitVec 32 := Scalar.addi v376 v377
  let c1_i32_152 : BitVec 32 := 1#32
  ⟨v381, v378, c1_i32_152⟩
def k0_off12 (v60 : BitVec 32) (v64 : BitVec 32) (k0_t4 : Fin (k0_t4_loop v60 v64).trips) : Fin 2 → Nat :=
  let c1_i32_148 : BitVec 32 := 1#32
  let v376 : BitVec 32 := Scalar.addi v60 c1_i32_148
  let v377 : BitVec 32 := Scalar.subi v64 v376
  let c1_i32_150 : BitVec 32 := 1#32
  let v379 : BitVec 32 := Scalar.divsi v377 c1_i32_150
  let v380 : BitVec 32 := Scalar.muli v379 c1_i32_150
  let v381 : BitVec 32 := Scalar.addi v376 v380
  let c1_i32_152 : BitVec 32 := 1#32
  let arg7 : BitVec 32 := Scf.iv v381 c1_i32_152 k0_t4
  let v390 : Index := Scalar.indexCast arg7
  let c0_155 : Index := 0#32
  ![v390.toNat, 0]

def k0_chk4 (v60 : BitVec 32) (v64 : BitVec 32) : Prop :=
  (∀ a, (k0_off10 v64) a + S1x512.size a ≤ S16x512.size a) ∧
  (∀ (k0_h3 : k0_cond3 v60 v64 = 1#1), (k0_t3_loop v60 v64).OK) ∧
  (∀ k0_t3 : Fin (k0_t3_loop v60 v64).trips, ∀ (k0_h3 : k0_cond3 v60 v64 = 1#1), ∀ a, (k0_off11 v60 v64 k0_t3) a + S1x512.size a ≤ S16x512.size a) ∧
  (∀ (k0_h3 : k0_cond3 v60 v64 = 1#1), (k0_t4_loop v60 v64).OK) ∧
  (∀ k0_t4 : Fin (k0_t4_loop v60 v64).trips, ∀ (k0_h3 : k0_cond3 v60 v64 = 1#1), ∀ a, (k0_off12 v60 v64 k0_t4) a + S1x512.size a ≤ S16x512.size a)
theorem k0_off10_inb : ∀ (v60 : BitVec 32) (v64 : BitVec 32) (k0_hw4 : k0_chk4 v60 v64), ∀ a, (k0_off10 v64) a + S1x512.size a ≤ S16x512.size a := fun v60 v64 k0_hw4 => k0_hw4.1
theorem k0_t3_ok : ∀ (v60 : BitVec 32) (v64 : BitVec 32) (k0_hw4 : k0_chk4 v60 v64), ∀ (k0_h3 : k0_cond3 v60 v64 = 1#1), (k0_t3_loop v60 v64).OK := fun v60 v64 k0_hw4 k0_h3 => k0_hw4.2.1 k0_h3
theorem k0_off11_inb : ∀ (v60 : BitVec 32) (v64 : BitVec 32) (k0_hw4 : k0_chk4 v60 v64) (k0_t3 : Fin (k0_t3_loop v60 v64).trips), ∀ (k0_h3 : k0_cond3 v60 v64 = 1#1), ∀ a, (k0_off11 v60 v64 k0_t3) a + S1x512.size a ≤ S16x512.size a := fun v60 v64 k0_hw4 k0_t3 k0_h3 => k0_hw4.2.2.1 k0_t3 k0_h3
theorem k0_t4_ok : ∀ (v60 : BitVec 32) (v64 : BitVec 32) (k0_hw4 : k0_chk4 v60 v64), ∀ (k0_h3 : k0_cond3 v60 v64 = 1#1), (k0_t4_loop v60 v64).OK := fun v60 v64 k0_hw4 k0_h3 => k0_hw4.2.2.2.1 k0_h3
theorem k0_off12_inb : ∀ (v60 : BitVec 32) (v64 : BitVec 32) (k0_hw4 : k0_chk4 v60 v64) (k0_t4 : Fin (k0_t4_loop v60 v64).trips), ∀ (k0_h3 : k0_cond3 v60 v64 = 1#1), ∀ a, (k0_off12 v60 v64 k0_t4) a + S1x512.size a ≤ S16x512.size a := fun v60 v64 k0_hw4 k0_t4 k0_h3 => k0_hw4.2.2.2.2 k0_t4 k0_h3

def k0_off13 (i : grid0.Coords) : Fin 1 → Nat :=
  let c2_i32_43 : BitVec 32 := 2#32
  let arg0 : BitVec 32 := BitVec.ofNat 32 (i 0).val
  let c8_i32_41 : BitVec 32 := 8#32
  let v102 : BitVec 32 := Scalar.muli arg0 c8_i32_41
  let c2_i32_42 : BitVec 32 := 2#32
  let v103 : BitVec 32 := Scalar.addi v102 c2_i32_42
  let v104 : BitVec 32 := Scalar.muli c2_i32_43 v103
  let v105 : Index := Scalar.indexCast v104
  ![v105.toNat]
def k0_off14 (i : grid0.Coords) : Fin 1 → Nat :=
  let c2_i32_44 : BitVec 32 := 2#32
  let arg0 : BitVec 32 := BitVec.ofNat 32 (i 0).val
  let c8_i32_41 : BitVec 32 := 8#32
  let v102 : BitVec 32 := Scalar.muli arg0 c8_i32_41
  let c2_i32_42 : BitVec 32 := 2#32
  let v103 : BitVec 32 := Scalar.addi v102 c2_i32_42
  let v107 : BitVec 32 := Scalar.muli c2_i32_44 v103
  let c1_i32_45 : BitVec 32 := 1#32
  let v108 : BitVec 32 := Scalar.addi v107 c1_i32_45
  let v109 : Index := Scalar.indexCast v108
  ![v109.toNat]
def k0_off15 (v106 : BitVec 32) : Fin 2 → Nat :=
  let v119 : Index := Scalar.indexCast v106
  let c0_48 : Index := 0#32
  ![v119.toNat, 0]

def k0_chk5 (v106 : BitVec 32) : Prop :=
  (∀ a, (k0_off15 v106) a + S1x512.size a ≤ S16x512.size a)
theorem k0_off15_inb : ∀ (v106 : BitVec 32) (k0_hw5 : k0_chk5 v106), ∀ a, (k0_off15 v106) a + S1x512.size a ≤ S16x512.size a := fun v106 k0_hw5 => k0_hw5

def k0_off16 (v110 : BitVec 32) : Fin 2 → Nat :=
  let v133 : Index := Scalar.indexCast v110
  let c0_52 : Index := 0#32
  ![v133.toNat, 0]

@[reducible] def k0_t5_loop (v106 : BitVec 32) (v110 : BitVec 32) : Scf.Loop 32 :=
  let c1_i32_148 : BitVec 32 := 1#32
  let v376 : BitVec 32 := Scalar.addi v106 c1_i32_148
  let v377 : BitVec 32 := Scalar.subi v110 v376
  let c1_i32_150 : BitVec 32 := 1#32
  let v379 : BitVec 32 := Scalar.divsi v377 c1_i32_150
  let v380 : BitVec 32 := Scalar.muli v379 c1_i32_150
  let v381 : BitVec 32 := Scalar.addi v376 v380
  let c1_i32_151 : BitVec 32 := 1#32
  ⟨v376, v381, c1_i32_151⟩
def k0_cond4 (v106 : BitVec 32) (v110 : BitVec 32) : BitVec 1 :=
  let v139 : BitVec 32 := Scalar.subi v110 v106
  let c2_i32_54 : BitVec 32 := 2#32
  let v140 : BitVec 1 := Scalar.cmpi .sge v139 c2_i32_54
  let v141 : BitVec 32 := Scalar.extui v140
  let c0_i32_55 : BitVec 32 := 0#32
  let v142 : BitVec 1 := Scalar.cmpi .ne v141 c0_i32_55
  v142

def k0_off17 (v106 : BitVec 32) (v110 : BitVec 32) (k0_t5 : Fin (k0_t5_loop v106 v110).trips) : Fin 2 → Nat :=
  let c1_i32_148 : BitVec 32 := 1#32
  let v376 : BitVec 32 := Scalar.addi v106 c1_i32_148
  let c1_i32_151 : BitVec 32 := 1#32
  let arg7 : BitVec 32 := Scf.iv v376 c1_i32_151 k0_t5
  let v390 : Index := Scalar.indexCast arg7
  let c0_155 : Index := 0#32
  ![v390.toNat, 0]
@[reducible] def k0_t6_loop (v106 : BitVec 32) (v110 : BitVec 32) : Scf.Loop 32 :=
  let c1_i32_148 : BitVec 32 := 1#32
  let v376 : BitVec 32 := Scalar.addi v106 c1_i32_148
  let v377 : BitVec 32 := Scalar.subi v110 v376
  let c1_i32_150 : BitVec 32 := 1#32
  let v379 : BitVec 32 := Scalar.divsi v377 c1_i32_150
  let v380 : BitVec 32 := Scalar.muli v379 c1_i32_150
  let v381 : BitVec 32 := Scalar.addi v376 v380
  let v378 : BitVec 32 := Scalar.addi v376 v377
  let c1_i32_152 : BitVec 32 := 1#32
  ⟨v381, v378, c1_i32_152⟩
def k0_off18 (v106 : BitVec 32) (v110 : BitVec 32) (k0_t6 : Fin (k0_t6_loop v106 v110).trips) : Fin 2 → Nat :=
  let c1_i32_148 : BitVec 32 := 1#32
  let v376 : BitVec 32 := Scalar.addi v106 c1_i32_148
  let v377 : BitVec 32 := Scalar.subi v110 v376
  let c1_i32_150 : BitVec 32 := 1#32
  let v379 : BitVec 32 := Scalar.divsi v377 c1_i32_150
  let v380 : BitVec 32 := Scalar.muli v379 c1_i32_150
  let v381 : BitVec 32 := Scalar.addi v376 v380
  let c1_i32_152 : BitVec 32 := 1#32
  let arg7 : BitVec 32 := Scf.iv v381 c1_i32_152 k0_t6
  let v390 : Index := Scalar.indexCast arg7
  let c0_155 : Index := 0#32
  ![v390.toNat, 0]

def k0_chk6 (v106 : BitVec 32) (v110 : BitVec 32) : Prop :=
  (∀ a, (k0_off16 v110) a + S1x512.size a ≤ S16x512.size a) ∧
  (∀ (k0_h4 : k0_cond4 v106 v110 = 1#1), (k0_t5_loop v106 v110).OK) ∧
  (∀ k0_t5 : Fin (k0_t5_loop v106 v110).trips, ∀ (k0_h4 : k0_cond4 v106 v110 = 1#1), ∀ a, (k0_off17 v106 v110 k0_t5) a + S1x512.size a ≤ S16x512.size a) ∧
  (∀ (k0_h4 : k0_cond4 v106 v110 = 1#1), (k0_t6_loop v106 v110).OK) ∧
  (∀ k0_t6 : Fin (k0_t6_loop v106 v110).trips, ∀ (k0_h4 : k0_cond4 v106 v110 = 1#1), ∀ a, (k0_off18 v106 v110 k0_t6) a + S1x512.size a ≤ S16x512.size a)
theorem k0_off16_inb : ∀ (v106 : BitVec 32) (v110 : BitVec 32) (k0_hw6 : k0_chk6 v106 v110), ∀ a, (k0_off16 v110) a + S1x512.size a ≤ S16x512.size a := fun v106 v110 k0_hw6 => k0_hw6.1
theorem k0_t5_ok : ∀ (v106 : BitVec 32) (v110 : BitVec 32) (k0_hw6 : k0_chk6 v106 v110), ∀ (k0_h4 : k0_cond4 v106 v110 = 1#1), (k0_t5_loop v106 v110).OK := fun v106 v110 k0_hw6 k0_h4 => k0_hw6.2.1 k0_h4
theorem k0_off17_inb : ∀ (v106 : BitVec 32) (v110 : BitVec 32) (k0_hw6 : k0_chk6 v106 v110) (k0_t5 : Fin (k0_t5_loop v106 v110).trips), ∀ (k0_h4 : k0_cond4 v106 v110 = 1#1), ∀ a, (k0_off17 v106 v110 k0_t5) a + S1x512.size a ≤ S16x512.size a := fun v106 v110 k0_hw6 k0_t5 k0_h4 => k0_hw6.2.2.1 k0_t5 k0_h4
theorem k0_t6_ok : ∀ (v106 : BitVec 32) (v110 : BitVec 32) (k0_hw6 : k0_chk6 v106 v110), ∀ (k0_h4 : k0_cond4 v106 v110 = 1#1), (k0_t6_loop v106 v110).OK := fun v106 v110 k0_hw6 k0_h4 => k0_hw6.2.2.2.1 k0_h4
theorem k0_off18_inb : ∀ (v106 : BitVec 32) (v110 : BitVec 32) (k0_hw6 : k0_chk6 v106 v110) (k0_t6 : Fin (k0_t6_loop v106 v110).trips), ∀ (k0_h4 : k0_cond4 v106 v110 = 1#1), ∀ a, (k0_off18 v106 v110 k0_t6) a + S1x512.size a ≤ S16x512.size a := fun v106 v110 k0_hw6 k0_t6 k0_h4 => k0_hw6.2.2.2.2 k0_t6 k0_h4

def k0_off19 (i : grid0.Coords) : Fin 1 → Nat :=
  let c2_i32_61 : BitVec 32 := 2#32
  let arg0 : BitVec 32 := BitVec.ofNat 32 (i 0).val
  let c8_i32_60 : BitVec 32 := 8#32
  let v148 : BitVec 32 := Scalar.muli arg0 c8_i32_60
  let c3_i32 : BitVec 32 := 3#32
  let v149 : BitVec 32 := Scalar.addi v148 c3_i32
  let v150 : BitVec 32 := Scalar.muli c2_i32_61 v149
  let v151 : Index := Scalar.indexCast v150
  ![v151.toNat]
def k0_off20 (i : grid0.Coords) : Fin 1 → Nat :=
  let c2_i32_62 : BitVec 32 := 2#32
  let arg0 : BitVec 32 := BitVec.ofNat 32 (i 0).val
  let c8_i32_60 : BitVec 32 := 8#32
  let v148 : BitVec 32 := Scalar.muli arg0 c8_i32_60
  let c3_i32 : BitVec 32 := 3#32
  let v149 : BitVec 32 := Scalar.addi v148 c3_i32
  let v153 : BitVec 32 := Scalar.muli c2_i32_62 v149
  let c1_i32_63 : BitVec 32 := 1#32
  let v154 : BitVec 32 := Scalar.addi v153 c1_i32_63
  let v155 : Index := Scalar.indexCast v154
  ![v155.toNat]
def k0_off21 (v152 : BitVec 32) : Fin 2 → Nat :=
  let v165 : Index := Scalar.indexCast v152
  let c0_66 : Index := 0#32
  ![v165.toNat, 0]

def k0_chk7 (v152 : BitVec 32) : Prop :=
  (∀ a, (k0_off21 v152) a + S1x512.size a ≤ S16x512.size a)
theorem k0_off21_inb : ∀ (v152 : BitVec 32) (k0_hw7 : k0_chk7 v152), ∀ a, (k0_off21 v152) a + S1x512.size a ≤ S16x512.size a := fun v152 k0_hw7 => k0_hw7

def k0_off22 (v156 : BitVec 32) : Fin 2 → Nat :=
  let v179 : Index := Scalar.indexCast v156
  let c0_70 : Index := 0#32
  ![v179.toNat, 0]

@[reducible] def k0_t7_loop (v152 : BitVec 32) (v156 : BitVec 32) : Scf.Loop 32 :=
  let c1_i32_148 : BitVec 32 := 1#32
  let v376 : BitVec 32 := Scalar.addi v152 c1_i32_148
  let v377 : BitVec 32 := Scalar.subi v156 v376
  let c1_i32_150 : BitVec 32 := 1#32
  let v379 : BitVec 32 := Scalar.divsi v377 c1_i32_150
  let v380 : BitVec 32 := Scalar.muli v379 c1_i32_150
  let v381 : BitVec 32 := Scalar.addi v376 v380
  let c1_i32_151 : BitVec 32 := 1#32
  ⟨v376, v381, c1_i32_151⟩
def k0_cond5 (v152 : BitVec 32) (v156 : BitVec 32) : BitVec 1 :=
  let v185 : BitVec 32 := Scalar.subi v156 v152
  let c2_i32_72 : BitVec 32 := 2#32
  let v186 : BitVec 1 := Scalar.cmpi .sge v185 c2_i32_72
  let v187 : BitVec 32 := Scalar.extui v186
  let c0_i32_73 : BitVec 32 := 0#32
  let v188 : BitVec 1 := Scalar.cmpi .ne v187 c0_i32_73
  v188

def k0_off23 (v152 : BitVec 32) (v156 : BitVec 32) (k0_t7 : Fin (k0_t7_loop v152 v156).trips) : Fin 2 → Nat :=
  let c1_i32_148 : BitVec 32 := 1#32
  let v376 : BitVec 32 := Scalar.addi v152 c1_i32_148
  let c1_i32_151 : BitVec 32 := 1#32
  let arg7 : BitVec 32 := Scf.iv v376 c1_i32_151 k0_t7
  let v390 : Index := Scalar.indexCast arg7
  let c0_155 : Index := 0#32
  ![v390.toNat, 0]
@[reducible] def k0_t8_loop (v152 : BitVec 32) (v156 : BitVec 32) : Scf.Loop 32 :=
  let c1_i32_148 : BitVec 32 := 1#32
  let v376 : BitVec 32 := Scalar.addi v152 c1_i32_148
  let v377 : BitVec 32 := Scalar.subi v156 v376
  let c1_i32_150 : BitVec 32 := 1#32
  let v379 : BitVec 32 := Scalar.divsi v377 c1_i32_150
  let v380 : BitVec 32 := Scalar.muli v379 c1_i32_150
  let v381 : BitVec 32 := Scalar.addi v376 v380
  let v378 : BitVec 32 := Scalar.addi v376 v377
  let c1_i32_152 : BitVec 32 := 1#32
  ⟨v381, v378, c1_i32_152⟩
def k0_off24 (v152 : BitVec 32) (v156 : BitVec 32) (k0_t8 : Fin (k0_t8_loop v152 v156).trips) : Fin 2 → Nat :=
  let c1_i32_148 : BitVec 32 := 1#32
  let v376 : BitVec 32 := Scalar.addi v152 c1_i32_148
  let v377 : BitVec 32 := Scalar.subi v156 v376
  let c1_i32_150 : BitVec 32 := 1#32
  let v379 : BitVec 32 := Scalar.divsi v377 c1_i32_150
  let v380 : BitVec 32 := Scalar.muli v379 c1_i32_150
  let v381 : BitVec 32 := Scalar.addi v376 v380
  let c1_i32_152 : BitVec 32 := 1#32
  let arg7 : BitVec 32 := Scf.iv v381 c1_i32_152 k0_t8
  let v390 : Index := Scalar.indexCast arg7
  let c0_155 : Index := 0#32
  ![v390.toNat, 0]

def k0_chk8 (v152 : BitVec 32) (v156 : BitVec 32) : Prop :=
  (∀ a, (k0_off22 v156) a + S1x512.size a ≤ S16x512.size a) ∧
  (∀ (k0_h5 : k0_cond5 v152 v156 = 1#1), (k0_t7_loop v152 v156).OK) ∧
  (∀ k0_t7 : Fin (k0_t7_loop v152 v156).trips, ∀ (k0_h5 : k0_cond5 v152 v156 = 1#1), ∀ a, (k0_off23 v152 v156 k0_t7) a + S1x512.size a ≤ S16x512.size a) ∧
  (∀ (k0_h5 : k0_cond5 v152 v156 = 1#1), (k0_t8_loop v152 v156).OK) ∧
  (∀ k0_t8 : Fin (k0_t8_loop v152 v156).trips, ∀ (k0_h5 : k0_cond5 v152 v156 = 1#1), ∀ a, (k0_off24 v152 v156 k0_t8) a + S1x512.size a ≤ S16x512.size a)
theorem k0_off22_inb : ∀ (v152 : BitVec 32) (v156 : BitVec 32) (k0_hw8 : k0_chk8 v152 v156), ∀ a, (k0_off22 v156) a + S1x512.size a ≤ S16x512.size a := fun v152 v156 k0_hw8 => k0_hw8.1
theorem k0_t7_ok : ∀ (v152 : BitVec 32) (v156 : BitVec 32) (k0_hw8 : k0_chk8 v152 v156), ∀ (k0_h5 : k0_cond5 v152 v156 = 1#1), (k0_t7_loop v152 v156).OK := fun v152 v156 k0_hw8 k0_h5 => k0_hw8.2.1 k0_h5
theorem k0_off23_inb : ∀ (v152 : BitVec 32) (v156 : BitVec 32) (k0_hw8 : k0_chk8 v152 v156) (k0_t7 : Fin (k0_t7_loop v152 v156).trips), ∀ (k0_h5 : k0_cond5 v152 v156 = 1#1), ∀ a, (k0_off23 v152 v156 k0_t7) a + S1x512.size a ≤ S16x512.size a := fun v152 v156 k0_hw8 k0_t7 k0_h5 => k0_hw8.2.2.1 k0_t7 k0_h5
theorem k0_t8_ok : ∀ (v152 : BitVec 32) (v156 : BitVec 32) (k0_hw8 : k0_chk8 v152 v156), ∀ (k0_h5 : k0_cond5 v152 v156 = 1#1), (k0_t8_loop v152 v156).OK := fun v152 v156 k0_hw8 k0_h5 => k0_hw8.2.2.2.1 k0_h5
theorem k0_off24_inb : ∀ (v152 : BitVec 32) (v156 : BitVec 32) (k0_hw8 : k0_chk8 v152 v156) (k0_t8 : Fin (k0_t8_loop v152 v156).trips), ∀ (k0_h5 : k0_cond5 v152 v156 = 1#1), ∀ a, (k0_off24 v152 v156 k0_t8) a + S1x512.size a ≤ S16x512.size a := fun v152 v156 k0_hw8 k0_t8 k0_h5 => k0_hw8.2.2.2.2 k0_t8 k0_h5

def k0_off25 (i : grid0.Coords) : Fin 1 → Nat :=
  let c2_i32_79 : BitVec 32 := 2#32
  let arg0 : BitVec 32 := BitVec.ofNat 32 (i 0).val
  let c8_i32_78 : BitVec 32 := 8#32
  let v194 : BitVec 32 := Scalar.muli arg0 c8_i32_78
  let c4_i32 : BitVec 32 := 4#32
  let v195 : BitVec 32 := Scalar.addi v194 c4_i32
  let v196 : BitVec 32 := Scalar.muli c2_i32_79 v195
  let v197 : Index := Scalar.indexCast v196
  ![v197.toNat]
def k0_off26 (i : grid0.Coords) : Fin 1 → Nat :=
  let c2_i32_80 : BitVec 32 := 2#32
  let arg0 : BitVec 32 := BitVec.ofNat 32 (i 0).val
  let c8_i32_78 : BitVec 32 := 8#32
  let v194 : BitVec 32 := Scalar.muli arg0 c8_i32_78
  let c4_i32 : BitVec 32 := 4#32
  let v195 : BitVec 32 := Scalar.addi v194 c4_i32
  let v199 : BitVec 32 := Scalar.muli c2_i32_80 v195
  let c1_i32_81 : BitVec 32 := 1#32
  let v200 : BitVec 32 := Scalar.addi v199 c1_i32_81
  let v201 : Index := Scalar.indexCast v200
  ![v201.toNat]
def k0_off27 (v198 : BitVec 32) : Fin 2 → Nat :=
  let v211 : Index := Scalar.indexCast v198
  let c0_84 : Index := 0#32
  ![v211.toNat, 0]

def k0_chk9 (v198 : BitVec 32) : Prop :=
  (∀ a, (k0_off27 v198) a + S1x512.size a ≤ S16x512.size a)
theorem k0_off27_inb : ∀ (v198 : BitVec 32) (k0_hw9 : k0_chk9 v198), ∀ a, (k0_off27 v198) a + S1x512.size a ≤ S16x512.size a := fun v198 k0_hw9 => k0_hw9

def k0_off28 (v202 : BitVec 32) : Fin 2 → Nat :=
  let v225 : Index := Scalar.indexCast v202
  let c0_88 : Index := 0#32
  ![v225.toNat, 0]

@[reducible] def k0_t9_loop (v198 : BitVec 32) (v202 : BitVec 32) : Scf.Loop 32 :=
  let c1_i32_148 : BitVec 32 := 1#32
  let v376 : BitVec 32 := Scalar.addi v198 c1_i32_148
  let v377 : BitVec 32 := Scalar.subi v202 v376
  let c1_i32_150 : BitVec 32 := 1#32
  let v379 : BitVec 32 := Scalar.divsi v377 c1_i32_150
  let v380 : BitVec 32 := Scalar.muli v379 c1_i32_150
  let v381 : BitVec 32 := Scalar.addi v376 v380
  let c1_i32_151 : BitVec 32 := 1#32
  ⟨v376, v381, c1_i32_151⟩
def k0_cond6 (v198 : BitVec 32) (v202 : BitVec 32) : BitVec 1 :=
  let v231 : BitVec 32 := Scalar.subi v202 v198
  let c2_i32_90 : BitVec 32 := 2#32
  let v232 : BitVec 1 := Scalar.cmpi .sge v231 c2_i32_90
  let v233 : BitVec 32 := Scalar.extui v232
  let c0_i32_91 : BitVec 32 := 0#32
  let v234 : BitVec 1 := Scalar.cmpi .ne v233 c0_i32_91
  v234

def k0_off29 (v198 : BitVec 32) (v202 : BitVec 32) (k0_t9 : Fin (k0_t9_loop v198 v202).trips) : Fin 2 → Nat :=
  let c1_i32_148 : BitVec 32 := 1#32
  let v376 : BitVec 32 := Scalar.addi v198 c1_i32_148
  let c1_i32_151 : BitVec 32 := 1#32
  let arg7 : BitVec 32 := Scf.iv v376 c1_i32_151 k0_t9
  let v390 : Index := Scalar.indexCast arg7
  let c0_155 : Index := 0#32
  ![v390.toNat, 0]
@[reducible] def k0_t10_loop (v198 : BitVec 32) (v202 : BitVec 32) : Scf.Loop 32 :=
  let c1_i32_148 : BitVec 32 := 1#32
  let v376 : BitVec 32 := Scalar.addi v198 c1_i32_148
  let v377 : BitVec 32 := Scalar.subi v202 v376
  let c1_i32_150 : BitVec 32 := 1#32
  let v379 : BitVec 32 := Scalar.divsi v377 c1_i32_150
  let v380 : BitVec 32 := Scalar.muli v379 c1_i32_150
  let v381 : BitVec 32 := Scalar.addi v376 v380
  let v378 : BitVec 32 := Scalar.addi v376 v377
  let c1_i32_152 : BitVec 32 := 1#32
  ⟨v381, v378, c1_i32_152⟩
def k0_off30 (v198 : BitVec 32) (v202 : BitVec 32) (k0_t10 : Fin (k0_t10_loop v198 v202).trips) : Fin 2 → Nat :=
  let c1_i32_148 : BitVec 32 := 1#32
  let v376 : BitVec 32 := Scalar.addi v198 c1_i32_148
  let v377 : BitVec 32 := Scalar.subi v202 v376
  let c1_i32_150 : BitVec 32 := 1#32
  let v379 : BitVec 32 := Scalar.divsi v377 c1_i32_150
  let v380 : BitVec 32 := Scalar.muli v379 c1_i32_150
  let v381 : BitVec 32 := Scalar.addi v376 v380
  let c1_i32_152 : BitVec 32 := 1#32
  let arg7 : BitVec 32 := Scf.iv v381 c1_i32_152 k0_t10
  let v390 : Index := Scalar.indexCast arg7
  let c0_155 : Index := 0#32
  ![v390.toNat, 0]

def k0_chk10 (v198 : BitVec 32) (v202 : BitVec 32) : Prop :=
  (∀ a, (k0_off28 v202) a + S1x512.size a ≤ S16x512.size a) ∧
  (∀ (k0_h6 : k0_cond6 v198 v202 = 1#1), (k0_t9_loop v198 v202).OK) ∧
  (∀ k0_t9 : Fin (k0_t9_loop v198 v202).trips, ∀ (k0_h6 : k0_cond6 v198 v202 = 1#1), ∀ a, (k0_off29 v198 v202 k0_t9) a + S1x512.size a ≤ S16x512.size a) ∧
  (∀ (k0_h6 : k0_cond6 v198 v202 = 1#1), (k0_t10_loop v198 v202).OK) ∧
  (∀ k0_t10 : Fin (k0_t10_loop v198 v202).trips, ∀ (k0_h6 : k0_cond6 v198 v202 = 1#1), ∀ a, (k0_off30 v198 v202 k0_t10) a + S1x512.size a ≤ S16x512.size a)
theorem k0_off28_inb : ∀ (v198 : BitVec 32) (v202 : BitVec 32) (k0_hw10 : k0_chk10 v198 v202), ∀ a, (k0_off28 v202) a + S1x512.size a ≤ S16x512.size a := fun v198 v202 k0_hw10 => k0_hw10.1
theorem k0_t9_ok : ∀ (v198 : BitVec 32) (v202 : BitVec 32) (k0_hw10 : k0_chk10 v198 v202), ∀ (k0_h6 : k0_cond6 v198 v202 = 1#1), (k0_t9_loop v198 v202).OK := fun v198 v202 k0_hw10 k0_h6 => k0_hw10.2.1 k0_h6
theorem k0_off29_inb : ∀ (v198 : BitVec 32) (v202 : BitVec 32) (k0_hw10 : k0_chk10 v198 v202) (k0_t9 : Fin (k0_t9_loop v198 v202).trips), ∀ (k0_h6 : k0_cond6 v198 v202 = 1#1), ∀ a, (k0_off29 v198 v202 k0_t9) a + S1x512.size a ≤ S16x512.size a := fun v198 v202 k0_hw10 k0_t9 k0_h6 => k0_hw10.2.2.1 k0_t9 k0_h6
theorem k0_t10_ok : ∀ (v198 : BitVec 32) (v202 : BitVec 32) (k0_hw10 : k0_chk10 v198 v202), ∀ (k0_h6 : k0_cond6 v198 v202 = 1#1), (k0_t10_loop v198 v202).OK := fun v198 v202 k0_hw10 k0_h6 => k0_hw10.2.2.2.1 k0_h6
theorem k0_off30_inb : ∀ (v198 : BitVec 32) (v202 : BitVec 32) (k0_hw10 : k0_chk10 v198 v202) (k0_t10 : Fin (k0_t10_loop v198 v202).trips), ∀ (k0_h6 : k0_cond6 v198 v202 = 1#1), ∀ a, (k0_off30 v198 v202 k0_t10) a + S1x512.size a ≤ S16x512.size a := fun v198 v202 k0_hw10 k0_t10 k0_h6 => k0_hw10.2.2.2.2 k0_t10 k0_h6

def k0_off31 (i : grid0.Coords) : Fin 1 → Nat :=
  let c2_i32_97 : BitVec 32 := 2#32
  let arg0 : BitVec 32 := BitVec.ofNat 32 (i 0).val
  let c8_i32_96 : BitVec 32 := 8#32
  let v240 : BitVec 32 := Scalar.muli arg0 c8_i32_96
  let c5_i32 : BitVec 32 := 5#32
  let v241 : BitVec 32 := Scalar.addi v240 c5_i32
  let v242 : BitVec 32 := Scalar.muli c2_i32_97 v241
  let v243 : Index := Scalar.indexCast v242
  ![v243.toNat]
def k0_off32 (i : grid0.Coords) : Fin 1 → Nat :=
  let c2_i32_98 : BitVec 32 := 2#32
  let arg0 : BitVec 32 := BitVec.ofNat 32 (i 0).val
  let c8_i32_96 : BitVec 32 := 8#32
  let v240 : BitVec 32 := Scalar.muli arg0 c8_i32_96
  let c5_i32 : BitVec 32 := 5#32
  let v241 : BitVec 32 := Scalar.addi v240 c5_i32
  let v245 : BitVec 32 := Scalar.muli c2_i32_98 v241
  let c1_i32_99 : BitVec 32 := 1#32
  let v246 : BitVec 32 := Scalar.addi v245 c1_i32_99
  let v247 : Index := Scalar.indexCast v246
  ![v247.toNat]
def k0_off33 (v244 : BitVec 32) : Fin 2 → Nat :=
  let v257 : Index := Scalar.indexCast v244
  let c0_102 : Index := 0#32
  ![v257.toNat, 0]

def k0_chk11 (v244 : BitVec 32) : Prop :=
  (∀ a, (k0_off33 v244) a + S1x512.size a ≤ S16x512.size a)
theorem k0_off33_inb : ∀ (v244 : BitVec 32) (k0_hw11 : k0_chk11 v244), ∀ a, (k0_off33 v244) a + S1x512.size a ≤ S16x512.size a := fun v244 k0_hw11 => k0_hw11

def k0_off34 (v248 : BitVec 32) : Fin 2 → Nat :=
  let v271 : Index := Scalar.indexCast v248
  let c0_106 : Index := 0#32
  ![v271.toNat, 0]

@[reducible] def k0_t11_loop (v244 : BitVec 32) (v248 : BitVec 32) : Scf.Loop 32 :=
  let c1_i32_148 : BitVec 32 := 1#32
  let v376 : BitVec 32 := Scalar.addi v244 c1_i32_148
  let v377 : BitVec 32 := Scalar.subi v248 v376
  let c1_i32_150 : BitVec 32 := 1#32
  let v379 : BitVec 32 := Scalar.divsi v377 c1_i32_150
  let v380 : BitVec 32 := Scalar.muli v379 c1_i32_150
  let v381 : BitVec 32 := Scalar.addi v376 v380
  let c1_i32_151 : BitVec 32 := 1#32
  ⟨v376, v381, c1_i32_151⟩
def k0_cond7 (v244 : BitVec 32) (v248 : BitVec 32) : BitVec 1 :=
  let v277 : BitVec 32 := Scalar.subi v248 v244
  let c2_i32_108 : BitVec 32 := 2#32
  let v278 : BitVec 1 := Scalar.cmpi .sge v277 c2_i32_108
  let v279 : BitVec 32 := Scalar.extui v278
  let c0_i32_109 : BitVec 32 := 0#32
  let v280 : BitVec 1 := Scalar.cmpi .ne v279 c0_i32_109
  v280

def k0_off35 (v244 : BitVec 32) (v248 : BitVec 32) (k0_t11 : Fin (k0_t11_loop v244 v248).trips) : Fin 2 → Nat :=
  let c1_i32_148 : BitVec 32 := 1#32
  let v376 : BitVec 32 := Scalar.addi v244 c1_i32_148
  let c1_i32_151 : BitVec 32 := 1#32
  let arg7 : BitVec 32 := Scf.iv v376 c1_i32_151 k0_t11
  let v390 : Index := Scalar.indexCast arg7
  let c0_155 : Index := 0#32
  ![v390.toNat, 0]
@[reducible] def k0_t12_loop (v244 : BitVec 32) (v248 : BitVec 32) : Scf.Loop 32 :=
  let c1_i32_148 : BitVec 32 := 1#32
  let v376 : BitVec 32 := Scalar.addi v244 c1_i32_148
  let v377 : BitVec 32 := Scalar.subi v248 v376
  let c1_i32_150 : BitVec 32 := 1#32
  let v379 : BitVec 32 := Scalar.divsi v377 c1_i32_150
  let v380 : BitVec 32 := Scalar.muli v379 c1_i32_150
  let v381 : BitVec 32 := Scalar.addi v376 v380
  let v378 : BitVec 32 := Scalar.addi v376 v377
  let c1_i32_152 : BitVec 32 := 1#32
  ⟨v381, v378, c1_i32_152⟩
def k0_off36 (v244 : BitVec 32) (v248 : BitVec 32) (k0_t12 : Fin (k0_t12_loop v244 v248).trips) : Fin 2 → Nat :=
  let c1_i32_148 : BitVec 32 := 1#32
  let v376 : BitVec 32 := Scalar.addi v244 c1_i32_148
  let v377 : BitVec 32 := Scalar.subi v248 v376
  let c1_i32_150 : BitVec 32 := 1#32
  let v379 : BitVec 32 := Scalar.divsi v377 c1_i32_150
  let v380 : BitVec 32 := Scalar.muli v379 c1_i32_150
  let v381 : BitVec 32 := Scalar.addi v376 v380
  let c1_i32_152 : BitVec 32 := 1#32
  let arg7 : BitVec 32 := Scf.iv v381 c1_i32_152 k0_t12
  let v390 : Index := Scalar.indexCast arg7
  let c0_155 : Index := 0#32
  ![v390.toNat, 0]

def k0_chk12 (v244 : BitVec 32) (v248 : BitVec 32) : Prop :=
  (∀ a, (k0_off34 v248) a + S1x512.size a ≤ S16x512.size a) ∧
  (∀ (k0_h7 : k0_cond7 v244 v248 = 1#1), (k0_t11_loop v244 v248).OK) ∧
  (∀ k0_t11 : Fin (k0_t11_loop v244 v248).trips, ∀ (k0_h7 : k0_cond7 v244 v248 = 1#1), ∀ a, (k0_off35 v244 v248 k0_t11) a + S1x512.size a ≤ S16x512.size a) ∧
  (∀ (k0_h7 : k0_cond7 v244 v248 = 1#1), (k0_t12_loop v244 v248).OK) ∧
  (∀ k0_t12 : Fin (k0_t12_loop v244 v248).trips, ∀ (k0_h7 : k0_cond7 v244 v248 = 1#1), ∀ a, (k0_off36 v244 v248 k0_t12) a + S1x512.size a ≤ S16x512.size a)
theorem k0_off34_inb : ∀ (v244 : BitVec 32) (v248 : BitVec 32) (k0_hw12 : k0_chk12 v244 v248), ∀ a, (k0_off34 v248) a + S1x512.size a ≤ S16x512.size a := fun v244 v248 k0_hw12 => k0_hw12.1
theorem k0_t11_ok : ∀ (v244 : BitVec 32) (v248 : BitVec 32) (k0_hw12 : k0_chk12 v244 v248), ∀ (k0_h7 : k0_cond7 v244 v248 = 1#1), (k0_t11_loop v244 v248).OK := fun v244 v248 k0_hw12 k0_h7 => k0_hw12.2.1 k0_h7
theorem k0_off35_inb : ∀ (v244 : BitVec 32) (v248 : BitVec 32) (k0_hw12 : k0_chk12 v244 v248) (k0_t11 : Fin (k0_t11_loop v244 v248).trips), ∀ (k0_h7 : k0_cond7 v244 v248 = 1#1), ∀ a, (k0_off35 v244 v248 k0_t11) a + S1x512.size a ≤ S16x512.size a := fun v244 v248 k0_hw12 k0_t11 k0_h7 => k0_hw12.2.2.1 k0_t11 k0_h7
theorem k0_t12_ok : ∀ (v244 : BitVec 32) (v248 : BitVec 32) (k0_hw12 : k0_chk12 v244 v248), ∀ (k0_h7 : k0_cond7 v244 v248 = 1#1), (k0_t12_loop v244 v248).OK := fun v244 v248 k0_hw12 k0_h7 => k0_hw12.2.2.2.1 k0_h7
theorem k0_off36_inb : ∀ (v244 : BitVec 32) (v248 : BitVec 32) (k0_hw12 : k0_chk12 v244 v248) (k0_t12 : Fin (k0_t12_loop v244 v248).trips), ∀ (k0_h7 : k0_cond7 v244 v248 = 1#1), ∀ a, (k0_off36 v244 v248 k0_t12) a + S1x512.size a ≤ S16x512.size a := fun v244 v248 k0_hw12 k0_t12 k0_h7 => k0_hw12.2.2.2.2 k0_t12 k0_h7

def k0_off37 (i : grid0.Coords) : Fin 1 → Nat :=
  let c2_i32_115 : BitVec 32 := 2#32
  let arg0 : BitVec 32 := BitVec.ofNat 32 (i 0).val
  let c8_i32_114 : BitVec 32 := 8#32
  let v286 : BitVec 32 := Scalar.muli arg0 c8_i32_114
  let c6_i32 : BitVec 32 := 6#32
  let v287 : BitVec 32 := Scalar.addi v286 c6_i32
  let v288 : BitVec 32 := Scalar.muli c2_i32_115 v287
  let v289 : Index := Scalar.indexCast v288
  ![v289.toNat]
def k0_off38 (i : grid0.Coords) : Fin 1 → Nat :=
  let c2_i32_116 : BitVec 32 := 2#32
  let arg0 : BitVec 32 := BitVec.ofNat 32 (i 0).val
  let c8_i32_114 : BitVec 32 := 8#32
  let v286 : BitVec 32 := Scalar.muli arg0 c8_i32_114
  let c6_i32 : BitVec 32 := 6#32
  let v287 : BitVec 32 := Scalar.addi v286 c6_i32
  let v291 : BitVec 32 := Scalar.muli c2_i32_116 v287
  let c1_i32_117 : BitVec 32 := 1#32
  let v292 : BitVec 32 := Scalar.addi v291 c1_i32_117
  let v293 : Index := Scalar.indexCast v292
  ![v293.toNat]
def k0_off39 (v290 : BitVec 32) : Fin 2 → Nat :=
  let v303 : Index := Scalar.indexCast v290
  let c0_120 : Index := 0#32
  ![v303.toNat, 0]

def k0_chk13 (v290 : BitVec 32) : Prop :=
  (∀ a, (k0_off39 v290) a + S1x512.size a ≤ S16x512.size a)
theorem k0_off39_inb : ∀ (v290 : BitVec 32) (k0_hw13 : k0_chk13 v290), ∀ a, (k0_off39 v290) a + S1x512.size a ≤ S16x512.size a := fun v290 k0_hw13 => k0_hw13

def k0_off40 (v294 : BitVec 32) : Fin 2 → Nat :=
  let v317 : Index := Scalar.indexCast v294
  let c0_124 : Index := 0#32
  ![v317.toNat, 0]

@[reducible] def k0_t13_loop (v290 : BitVec 32) (v294 : BitVec 32) : Scf.Loop 32 :=
  let c1_i32_148 : BitVec 32 := 1#32
  let v376 : BitVec 32 := Scalar.addi v290 c1_i32_148
  let v377 : BitVec 32 := Scalar.subi v294 v376
  let c1_i32_150 : BitVec 32 := 1#32
  let v379 : BitVec 32 := Scalar.divsi v377 c1_i32_150
  let v380 : BitVec 32 := Scalar.muli v379 c1_i32_150
  let v381 : BitVec 32 := Scalar.addi v376 v380
  let c1_i32_151 : BitVec 32 := 1#32
  ⟨v376, v381, c1_i32_151⟩
def k0_cond8 (v290 : BitVec 32) (v294 : BitVec 32) : BitVec 1 :=
  let v323 : BitVec 32 := Scalar.subi v294 v290
  let c2_i32_126 : BitVec 32 := 2#32
  let v324 : BitVec 1 := Scalar.cmpi .sge v323 c2_i32_126
  let v325 : BitVec 32 := Scalar.extui v324
  let c0_i32_127 : BitVec 32 := 0#32
  let v326 : BitVec 1 := Scalar.cmpi .ne v325 c0_i32_127
  v326

def k0_off41 (v290 : BitVec 32) (v294 : BitVec 32) (k0_t13 : Fin (k0_t13_loop v290 v294).trips) : Fin 2 → Nat :=
  let c1_i32_148 : BitVec 32 := 1#32
  let v376 : BitVec 32 := Scalar.addi v290 c1_i32_148
  let c1_i32_151 : BitVec 32 := 1#32
  let arg7 : BitVec 32 := Scf.iv v376 c1_i32_151 k0_t13
  let v390 : Index := Scalar.indexCast arg7
  let c0_155 : Index := 0#32
  ![v390.toNat, 0]
@[reducible] def k0_t14_loop (v290 : BitVec 32) (v294 : BitVec 32) : Scf.Loop 32 :=
  let c1_i32_148 : BitVec 32 := 1#32
  let v376 : BitVec 32 := Scalar.addi v290 c1_i32_148
  let v377 : BitVec 32 := Scalar.subi v294 v376
  let c1_i32_150 : BitVec 32 := 1#32
  let v379 : BitVec 32 := Scalar.divsi v377 c1_i32_150
  let v380 : BitVec 32 := Scalar.muli v379 c1_i32_150
  let v381 : BitVec 32 := Scalar.addi v376 v380
  let v378 : BitVec 32 := Scalar.addi v376 v377
  let c1_i32_152 : BitVec 32 := 1#32
  ⟨v381, v378, c1_i32_152⟩
def k0_off42 (v290 : BitVec 32) (v294 : BitVec 32) (k0_t14 : Fin (k0_t14_loop v290 v294).trips) : Fin 2 → Nat :=
  let c1_i32_148 : BitVec 32 := 1#32
  let v376 : BitVec 32 := Scalar.addi v290 c1_i32_148
  let v377 : BitVec 32 := Scalar.subi v294 v376
  let c1_i32_150 : BitVec 32 := 1#32
  let v379 : BitVec 32 := Scalar.divsi v377 c1_i32_150
  let v380 : BitVec 32 := Scalar.muli v379 c1_i32_150
  let v381 : BitVec 32 := Scalar.addi v376 v380
  let c1_i32_152 : BitVec 32 := 1#32
  let arg7 : BitVec 32 := Scf.iv v381 c1_i32_152 k0_t14
  let v390 : Index := Scalar.indexCast arg7
  let c0_155 : Index := 0#32
  ![v390.toNat, 0]

def k0_chk14 (v290 : BitVec 32) (v294 : BitVec 32) : Prop :=
  (∀ a, (k0_off40 v294) a + S1x512.size a ≤ S16x512.size a) ∧
  (∀ (k0_h8 : k0_cond8 v290 v294 = 1#1), (k0_t13_loop v290 v294).OK) ∧
  (∀ k0_t13 : Fin (k0_t13_loop v290 v294).trips, ∀ (k0_h8 : k0_cond8 v290 v294 = 1#1), ∀ a, (k0_off41 v290 v294 k0_t13) a + S1x512.size a ≤ S16x512.size a) ∧
  (∀ (k0_h8 : k0_cond8 v290 v294 = 1#1), (k0_t14_loop v290 v294).OK) ∧
  (∀ k0_t14 : Fin (k0_t14_loop v290 v294).trips, ∀ (k0_h8 : k0_cond8 v290 v294 = 1#1), ∀ a, (k0_off42 v290 v294 k0_t14) a + S1x512.size a ≤ S16x512.size a)
theorem k0_off40_inb : ∀ (v290 : BitVec 32) (v294 : BitVec 32) (k0_hw14 : k0_chk14 v290 v294), ∀ a, (k0_off40 v294) a + S1x512.size a ≤ S16x512.size a := fun v290 v294 k0_hw14 => k0_hw14.1
theorem k0_t13_ok : ∀ (v290 : BitVec 32) (v294 : BitVec 32) (k0_hw14 : k0_chk14 v290 v294), ∀ (k0_h8 : k0_cond8 v290 v294 = 1#1), (k0_t13_loop v290 v294).OK := fun v290 v294 k0_hw14 k0_h8 => k0_hw14.2.1 k0_h8
theorem k0_off41_inb : ∀ (v290 : BitVec 32) (v294 : BitVec 32) (k0_hw14 : k0_chk14 v290 v294) (k0_t13 : Fin (k0_t13_loop v290 v294).trips), ∀ (k0_h8 : k0_cond8 v290 v294 = 1#1), ∀ a, (k0_off41 v290 v294 k0_t13) a + S1x512.size a ≤ S16x512.size a := fun v290 v294 k0_hw14 k0_t13 k0_h8 => k0_hw14.2.2.1 k0_t13 k0_h8
theorem k0_t14_ok : ∀ (v290 : BitVec 32) (v294 : BitVec 32) (k0_hw14 : k0_chk14 v290 v294), ∀ (k0_h8 : k0_cond8 v290 v294 = 1#1), (k0_t14_loop v290 v294).OK := fun v290 v294 k0_hw14 k0_h8 => k0_hw14.2.2.2.1 k0_h8
theorem k0_off42_inb : ∀ (v290 : BitVec 32) (v294 : BitVec 32) (k0_hw14 : k0_chk14 v290 v294) (k0_t14 : Fin (k0_t14_loop v290 v294).trips), ∀ (k0_h8 : k0_cond8 v290 v294 = 1#1), ∀ a, (k0_off42 v290 v294 k0_t14) a + S1x512.size a ≤ S16x512.size a := fun v290 v294 k0_hw14 k0_t14 k0_h8 => k0_hw14.2.2.2.2 k0_t14 k0_h8

def k0_off43 (i : grid0.Coords) : Fin 1 → Nat :=
  let c2_i32_133 : BitVec 32 := 2#32
  let arg0 : BitVec 32 := BitVec.ofNat 32 (i 0).val
  let c8_i32_132 : BitVec 32 := 8#32
  let v332 : BitVec 32 := Scalar.muli arg0 c8_i32_132
  let c7_i32 : BitVec 32 := 7#32
  let v333 : BitVec 32 := Scalar.addi v332 c7_i32
  let v334 : BitVec 32 := Scalar.muli c2_i32_133 v333
  let v335 : Index := Scalar.indexCast v334
  ![v335.toNat]
def k0_off44 (i : grid0.Coords) : Fin 1 → Nat :=
  let c2_i32_134 : BitVec 32 := 2#32
  let arg0 : BitVec 32 := BitVec.ofNat 32 (i 0).val
  let c8_i32_132 : BitVec 32 := 8#32
  let v332 : BitVec 32 := Scalar.muli arg0 c8_i32_132
  let c7_i32 : BitVec 32 := 7#32
  let v333 : BitVec 32 := Scalar.addi v332 c7_i32
  let v337 : BitVec 32 := Scalar.muli c2_i32_134 v333
  let c1_i32_135 : BitVec 32 := 1#32
  let v338 : BitVec 32 := Scalar.addi v337 c1_i32_135
  let v339 : Index := Scalar.indexCast v338
  ![v339.toNat]
def k0_off45 (v336 : BitVec 32) : Fin 2 → Nat :=
  let v349 : Index := Scalar.indexCast v336
  let c0_138 : Index := 0#32
  ![v349.toNat, 0]

def k0_chk15 (v336 : BitVec 32) : Prop :=
  (∀ a, (k0_off45 v336) a + S1x512.size a ≤ S16x512.size a)
theorem k0_off45_inb : ∀ (v336 : BitVec 32) (k0_hw15 : k0_chk15 v336), ∀ a, (k0_off45 v336) a + S1x512.size a ≤ S16x512.size a := fun v336 k0_hw15 => k0_hw15

def k0_off46 (v340 : BitVec 32) : Fin 2 → Nat :=
  let v363 : Index := Scalar.indexCast v340
  let c0_142 : Index := 0#32
  ![v363.toNat, 0]

@[reducible] def k0_t15_loop (v336 : BitVec 32) (v340 : BitVec 32) : Scf.Loop 32 :=
  let c1_i32_148 : BitVec 32 := 1#32
  let v376 : BitVec 32 := Scalar.addi v336 c1_i32_148
  let v377 : BitVec 32 := Scalar.subi v340 v376
  let c1_i32_150 : BitVec 32 := 1#32
  let v379 : BitVec 32 := Scalar.divsi v377 c1_i32_150
  let v380 : BitVec 32 := Scalar.muli v379 c1_i32_150
  let v381 : BitVec 32 := Scalar.addi v376 v380
  let c1_i32_151 : BitVec 32 := 1#32
  ⟨v376, v381, c1_i32_151⟩
def k0_cond9 (v336 : BitVec 32) (v340 : BitVec 32) : BitVec 1 :=
  let v369 : BitVec 32 := Scalar.subi v340 v336
  let c2_i32_144 : BitVec 32 := 2#32
  let v370 : BitVec 1 := Scalar.cmpi .sge v369 c2_i32_144
  let v371 : BitVec 32 := Scalar.extui v370
  let c0_i32_145 : BitVec 32 := 0#32
  let v372 : BitVec 1 := Scalar.cmpi .ne v371 c0_i32_145
  v372

def k0_off47 (v336 : BitVec 32) (v340 : BitVec 32) (k0_t15 : Fin (k0_t15_loop v336 v340).trips) : Fin 2 → Nat :=
  let c1_i32_148 : BitVec 32 := 1#32
  let v376 : BitVec 32 := Scalar.addi v336 c1_i32_148
  let c1_i32_151 : BitVec 32 := 1#32
  let arg7 : BitVec 32 := Scf.iv v376 c1_i32_151 k0_t15
  let v390 : Index := Scalar.indexCast arg7
  let c0_155 : Index := 0#32
  ![v390.toNat, 0]
@[reducible] def k0_t16_loop (v336 : BitVec 32) (v340 : BitVec 32) : Scf.Loop 32 :=
  let c1_i32_148 : BitVec 32 := 1#32
  let v376 : BitVec 32 := Scalar.addi v336 c1_i32_148
  let v377 : BitVec 32 := Scalar.subi v340 v376
  let c1_i32_150 : BitVec 32 := 1#32
  let v379 : BitVec 32 := Scalar.divsi v377 c1_i32_150
  let v380 : BitVec 32 := Scalar.muli v379 c1_i32_150
  let v381 : BitVec 32 := Scalar.addi v376 v380
  let v378 : BitVec 32 := Scalar.addi v376 v377
  let c1_i32_152 : BitVec 32 := 1#32
  ⟨v381, v378, c1_i32_152⟩
def k0_off48 (v336 : BitVec 32) (v340 : BitVec 32) (k0_t16 : Fin (k0_t16_loop v336 v340).trips) : Fin 2 → Nat :=
  let c1_i32_148 : BitVec 32 := 1#32
  let v376 : BitVec 32 := Scalar.addi v336 c1_i32_148
  let v377 : BitVec 32 := Scalar.subi v340 v376
  let c1_i32_150 : BitVec 32 := 1#32
  let v379 : BitVec 32 := Scalar.divsi v377 c1_i32_150
  let v380 : BitVec 32 := Scalar.muli v379 c1_i32_150
  let v381 : BitVec 32 := Scalar.addi v376 v380
  let c1_i32_152 : BitVec 32 := 1#32
  let arg7 : BitVec 32 := Scf.iv v381 c1_i32_152 k0_t16
  let v390 : Index := Scalar.indexCast arg7
  let c0_155 : Index := 0#32
  ![v390.toNat, 0]

def k0_chk16 (v336 : BitVec 32) (v340 : BitVec 32) : Prop :=
  (∀ a, (k0_off46 v340) a + S1x512.size a ≤ S16x512.size a) ∧
  (∀ (k0_h9 : k0_cond9 v336 v340 = 1#1), (k0_t15_loop v336 v340).OK) ∧
  (∀ k0_t15 : Fin (k0_t15_loop v336 v340).trips, ∀ (k0_h9 : k0_cond9 v336 v340 = 1#1), ∀ a, (k0_off47 v336 v340 k0_t15) a + S1x512.size a ≤ S16x512.size a) ∧
  (∀ (k0_h9 : k0_cond9 v336 v340 = 1#1), (k0_t16_loop v336 v340).OK) ∧
  (∀ k0_t16 : Fin (k0_t16_loop v336 v340).trips, ∀ (k0_h9 : k0_cond9 v336 v340 = 1#1), ∀ a, (k0_off48 v336 v340 k0_t16) a + S1x512.size a ≤ S16x512.size a)
theorem k0_off46_inb : ∀ (v336 : BitVec 32) (v340 : BitVec 32) (k0_hw16 : k0_chk16 v336 v340), ∀ a, (k0_off46 v340) a + S1x512.size a ≤ S16x512.size a := fun v336 v340 k0_hw16 => k0_hw16.1
theorem k0_t15_ok : ∀ (v336 : BitVec 32) (v340 : BitVec 32) (k0_hw16 : k0_chk16 v336 v340), ∀ (k0_h9 : k0_cond9 v336 v340 = 1#1), (k0_t15_loop v336 v340).OK := fun v336 v340 k0_hw16 k0_h9 => k0_hw16.2.1 k0_h9
theorem k0_off47_inb : ∀ (v336 : BitVec 32) (v340 : BitVec 32) (k0_hw16 : k0_chk16 v336 v340) (k0_t15 : Fin (k0_t15_loop v336 v340).trips), ∀ (k0_h9 : k0_cond9 v336 v340 = 1#1), ∀ a, (k0_off47 v336 v340 k0_t15) a + S1x512.size a ≤ S16x512.size a := fun v336 v340 k0_hw16 k0_t15 k0_h9 => k0_hw16.2.2.1 k0_t15 k0_h9
theorem k0_t16_ok : ∀ (v336 : BitVec 32) (v340 : BitVec 32) (k0_hw16 : k0_chk16 v336 v340), ∀ (k0_h9 : k0_cond9 v336 v340 = 1#1), (k0_t16_loop v336 v340).OK := fun v336 v340 k0_hw16 k0_h9 => k0_hw16.2.2.2.1 k0_h9
theorem k0_off48_inb : ∀ (v336 : BitVec 32) (v340 : BitVec 32) (k0_hw16 : k0_chk16 v336 v340) (k0_t16 : Fin (k0_t16_loop v336 v340).trips), ∀ (k0_h9 : k0_cond9 v336 v340 = 1#1), ∀ a, (k0_off48 v336 v340 k0_t16) a + S1x512.size a ≤ S16x512.size a := fun v336 v340 k0_hw16 k0_t16 k0_h9 => k0_hw16.2.2.2.2 k0_t16 k0_h9

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S16384x256 : Shape := ⟨2, ![16384, 256]⟩
abbrev S256x512 : Shape := ⟨2, ![256, 512]⟩
abbrev S512 : Shape := ⟨1, ![512]⟩
abbrev S16384 : Shape := ⟨1, ![16384]⟩
abbrev S16384x512 : Shape := ⟨2, ![16384, 512]⟩
abbrev S1x512 : Shape := ⟨2, ![1, 512]⟩
abbrev S_ : Shape := ⟨0, ![]⟩
abbrev S1x16384 : Shape := ⟨2, ![1, 16384]⟩
abbrev S16 : Shape := ⟨1, ![16]⟩
abbrev S16x1 : Shape := ⟨2, ![16, 1]⟩
abbrev S16x16384 : Shape := ⟨2, ![16, 16384]⟩
abbrev S16x16384x1 : Shape := ⟨3, ![16, 16384, 1]⟩
abbrev S1x16384x512 : Shape := ⟨3, ![1, 16384, 512]⟩
abbrev S16x16384x512 : Shape := ⟨3, ![16, 16384, 512]⟩
abbrev S16x512 : Shape := ⟨2, ![16, 512]⟩

abbrev nBuf : Space → Nat
  | .hbm => 35
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S256x512, .f32⟩
  | .hbm, ⟨2, _⟩ => ⟨S512, .f32⟩
  | .hbm, ⟨3, _⟩ => ⟨S16384, .i32⟩
  | .hbm, ⟨4, _⟩ => ⟨S16384x512, .f32⟩
  | .hbm, ⟨5, _⟩ => ⟨S1x512, .f32⟩
  | .hbm, ⟨6, _⟩ => ⟨S16384x512, .f32⟩
  | .hbm, ⟨7, _⟩ => ⟨S16384x512, .f32⟩
  | .hbm, ⟨8, _⟩ => ⟨S_, .f32⟩
  | .hbm, ⟨9, _⟩ => ⟨S16384x512, .f32⟩
  | .hbm, ⟨10, _⟩ => ⟨S16384x512, .f32⟩
  | .hbm, ⟨11, _⟩ => ⟨S1x16384, .i32⟩
  | .hbm, ⟨12, _⟩ => ⟨S16, .i32⟩
  | .hbm, ⟨13, _⟩ => ⟨S16x1, .i32⟩
  | .hbm, ⟨14, _⟩ => ⟨S16x16384, .i32⟩
  | .hbm, ⟨15, _⟩ => ⟨S16x16384, .i32⟩
  | .hbm, ⟨16, _⟩ => ⟨S16x16384, .i1⟩
  | .hbm, ⟨17, _⟩ => ⟨S16x16384x1, .i1⟩
  | .hbm, ⟨18, _⟩ => ⟨S1x16384x512, .f32⟩
  | .hbm, ⟨19, _⟩ => ⟨S_, .f32⟩
  | .hbm, ⟨20, _⟩ => ⟨S_, .f32⟩
  | .hbm, ⟨21, _⟩ => ⟨S16x16384x512, .i1⟩
  | .hbm, ⟨22, _⟩ => ⟨S16x16384x512, .f32⟩
  | .hbm, ⟨23, _⟩ => ⟨S16x16384x512, .f32⟩
  | .hbm, ⟨24, _⟩ => ⟨S16x16384x512, .f32⟩
  | .hbm, ⟨25, _⟩ => ⟨S_, .f32⟩
  | .hbm, ⟨26, _⟩ => ⟨S16x512, .f32⟩
  | .hbm, ⟨27, _⟩ => ⟨S_, .f32⟩
  | .hbm, ⟨28, _⟩ => ⟨S16x512, .f32⟩
  | .hbm, ⟨29, _⟩ => ⟨S16x512, .i1⟩
  | .hbm, ⟨30, _⟩ => ⟨S_, .f32⟩
  | .hbm, ⟨31, _⟩ => ⟨S_, .f32⟩
  | .hbm, ⟨32, _⟩ => ⟨S16x512, .f32⟩
  | .hbm, ⟨33, _⟩ => ⟨S16x512, .f32⟩
  | .hbm, ⟨34, _⟩ => ⟨S16, .i32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_call1_v0 : Ref sig .tc := ⟨.hbm, 31, rfl⟩
abbrev main_call1_v1 : Ref sig .tc := ⟨.hbm, 32, rfl⟩
abbrev main_v18 : Ref sig .tc := ⟨.hbm, 33, rfl⟩
abbrev main_v19 : Ref sig .tc := ⟨.hbm, 34, rfl⟩

abbrev nD : Nat := 1
abbrev τ : Topo := Topo.v7x

variable {F : FTy → Type} [FloatOps F]
-- ==== Proof.Given.lean ====
/- What the range precondition says, element by element. -/
module

public import proofs.«01_k».proof.Proof.Gen.Pre_ids_in_range
public import Idealize.ShloMosaic.Lib.Pointwise
public import Idealize.ShloMosaic.Lib.ReduceAll

@[expose] public section

set_option maxRecDepth 16384

noncomputable section

namespace Cert.Given

open Idealize.ShloMosaic Idealize.ShloMosaic.Tactic

variable {F : FTy → Type} [FloatOps F]

abbrev Ids : Shape := ⟨1, ![16384]⟩
abbrev Rows : Shape := ⟨2, ![16384, 256]⟩
abbrev Weights : Shape := ⟨2, ![256, 512]⟩
abbrev Bias : Shape := ⟨1, ![512]⟩

theorem small_of_bounds {w : BitVec 32} (h : 0 ≤ w.toInt) (h' : w.toInt < 16) : w.toNat < 16 := by
  have := w.isLt
  rw [BitVec.toInt_eq_toNat_cond] at h h'
  split at h <;> omega

instance : Subsingleton (⟨0, ![]⟩ : Shape).Idx := ⟨fun a b => funext fun k => k.elim0⟩

/-- Every segment id is one of 0 to 15. -/
theorem small_of_range {x : FVec F Rows .f32} {w : FVec F Weights .f32} {b : FVec F Bias .f32} {ids : IVec Ids 32}
    (h : Cert.Pre_ids_in_range.fn x w b ids = fun _ => 1#1) (y : Ids.Idx) : (ids y).toNat < 16 := by
  have e := Host.reduce_andi_all _ _ _ _ _ (congrFun h ix0) y
  obtain ⟨e0, e1⟩ := IntOp.andi_eq_one.mp e
  exact small_of_bounds (IntOp.cmpi_sge.mp e0) (IntOp.cmpi_slt.mp e1)

end Cert.Given

end
-- ==== Proof.Sorted.lean ====
/- What the sorted precondition says, element by element. -/
module

public import proofs.«01_k».proof.Proof.Given
public import proofs.«01_k».proof.Proof.Gen.Pre_ids_sorted_bias_finite

@[expose] public section

set_option maxRecDepth 16384

noncomputable section

namespace Cert.Given

open Idealize.ShloMosaic Idealize.ShloMosaic.Tactic

variable {F : FTy → Type} [FloatOps F]

theorem small_of_sorted {x : FVec F Rows .f32} {w : FVec F Weights .f32} {b : FVec F Bias .f32} {ids : IVec Ids 32}
    (h : Cert.Pre_ids_sorted_bias_finite.fn x w b ids = fun _ => 1#1) (y : Ids.Idx) : (ids y).toNat < 16 := by
  obtain ⟨e, _⟩ := IntOp.andi_eq_one.mp (congrFun h ix0)
  obtain ⟨e, _⟩ := IntOp.andi_eq_one.mp e
  have e := Host.reduce_andi_all _ _ _ _ _ e y
  obtain ⟨e0, e1⟩ := IntOp.andi_eq_one.mp e
  exact small_of_bounds (IntOp.cmpi_sge.mp e0) (IntOp.cmpi_slt.mp e1)

theorem step_of_sorted {x : FVec F Rows .f32} {w : FVec F Weights .f32} {b : FVec F Bias .f32} {ids : IVec Ids 32}
    (h : Cert.Pre_ids_sorted_bias_finite.fn x w b ids = fun _ => 1#1) (n : Nat) (hn : n + 1 < 16384) :
    (ids (ix1 ⟨n, by omega⟩)).toNat ≤ (ids (ix1 ⟨n + 1, hn⟩)).toNat := by
  obtain ⟨e, _⟩ := IntOp.andi_eq_one.mp (congrFun h ix0)
  obtain ⟨_, e⟩ := IntOp.andi_eq_one.mp e
  have e := Host.reduce_andi_all _ _ _ _ _ e (ix1 ⟨n, by omega⟩)
  have e := IntOp.cmpi_sge.mp e
  have e' : (ids (ix1 ⟨n, by omega⟩)).toInt ≤ (ids (ix1 ⟨n + 1, hn⟩)).toInt := by
    rw [show (⟨n + 1, hn⟩ : Fin 16384) = ⟨1 + n, by omega⟩ from Fin.ext (Nat.add_comm n 1)]
    revert e
    pointwise
    exact id
  have h0 := small_of_sorted h (ix1 ⟨n, by omega⟩)
  have h1 := small_of_sorted h (ix1 ⟨n + 1, hn⟩)
  rw [BitVec.toInt_eq_toNat_of_lt (by omega), BitVec.toInt_eq_toNat_of_lt (by omega)] at e'
  omega

/-- The segment ids ascend. -/
theorem ascending {x : FVec F Rows .f32} {w : FVec F Weights .f32} {b : FVec F Bias .f32} {ids : IVec Ids 32}
    (h : Cert.Pre_ids_sorted_bias_finite.fn x w b ids = fun _ => 1#1) {n k : Nat} (hnk : n ≤ k) (hk : k < 16384) :
    (ids (ix1 ⟨n, by omega⟩)).toNat ≤ (ids (ix1 ⟨k, hk⟩)).toNat := by
  induction k, hnk using Nat.le_induction with
  | base => exact le_rfl
  | succ k hnk ih => exact (ih (by omega)).trans (step_of_sorted h k hk)

theorem top_bits : Ideal.ofBits .f32 0x7F800000#32 = ⊤ := by simp [Ideal.ofBits, Ideal.ieee]

/-- The bias is neither of the infinities. -/
theorem finite_of_sorted {x : FVec Ideal Rows .f32} {w : FVec Ideal Weights .f32} {b : FVec Ideal Bias .f32} {ids : IVec Ids 32}
    (h : Cert.Pre_ids_sorted_bias_finite.fn x w b ids = fun _ => 1#1) (y : Bias.Idx) : (b y : EReal) ≠ ⊤ ∧ (b y : EReal) ≠ ⊥ := by
  obtain ⟨_, e⟩ := IntOp.andi_eq_one.mp (congrFun h ix0)
  have e := Host.reduce_andi_all _ _ _ _ _ e y
  revert e
  pointwise
  rw [top_bits]
  intro e
  have e' : max (b y : EReal) (-(b y)) < ⊤ := by
    by_contra hc
    rw [decide_eq_false (by exact hc)] at e
    exact absurd e (by decide)
  refine ⟨fun ht => ?_, fun hb => ?_⟩
  · rw [ht] at e'; simp at e'
  · rw [hb] at e'; simp at e'

end Cert.Given

end
-- ==== Proof.Steps.lean ====
/- Steps of a program that works on a buffer owned as a whole: a load through a rectangle, a word of a scalar
   table, a side condition assumed, a row read and written back, a counted loop of such trips. Stated for any
   signature and any float instance. -/
module

public import Idealize.ShloMosaic.Lib.Memref
public import Idealize.ShloMosaic.Lib.Tactic
public import Idealize.ShloMosaic.Lib.Scf

@[expose] public section

noncomputable section

namespace Cert.Steps

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {Λ : Labels}
variable {Ix : Type} [DecidableEq Ix] {Name : Type} [DecidableEq Name] {U : Type} [URA U] {Lvl : Type} [Preorder Lvl]

local notation "𝕄" => MT nD τ sig Ix Val Name U Lvl

variable {defs : Defs nD τ sig Val Λ} (𝒱 : Variants) (c : Dev nD) (bd : Option 𝒱.V) (E : Set Name)
variable {s : Shape} {e : EltTy} {α : Type}

/-- The part of `X` that the rectangle `r` names. -/
abbrev part {γ : Type} (r : Rect s) (X : s.Idx → γ) : r.shape.Idx → γ := fun j => X (r.emb j)

/-- A load of a vector through a rectangle. -/
theorem wp_vload {m : Memref sig .tc .vmem s e} {r : Rect s} {hl : m.view.LoadsAt r.toLoadRect} {q : PosShare TreeShare}
    {X : s.Idx → Val e} {k : (r.shape.Idx → Val e) → Prog (TpuEff nD τ sig Val Λ .tc) α} {Q : α → sProp 𝕄} :
    (owns (c : Thread nD τ) m q X : sProp 𝕄)
      ⊢ iprop((owns (c : Thread nD τ) m q X -∗ wp frame (wpE defs 𝒱 (c : Thread nD τ) bd) E (k (part r X)) Q)
        -∗ wp frame (wpE defs 𝒱 (c : Thread nD τ) bd) E (Prog.lift (.load m r.toLoadRect hl) >>= k) Q) := by
  unfold owns
  iintro ⟨%f, %hf, H⟩ Hk
  iapply (wp_load_rect 𝒱 (c : Thread nD τ) bd E (m := m) (r := r) (hl := hl) (k := k) (m.view.set_slice_subset r)) $$ H
  iintro H
  subst hf
  iapply Hk
  iexists f
  isplitr
  · ipureintro; rfl
  · iexact H

/-- A word of a scalar table. -/
theorem wp_word {m : Memref sig .tc .smem s e} {r : Rect s} {h1 : r.shape.numel = 1} {hp : e.packing = 1} {q : PosShare TreeShare}
    {X : s.Idx → Val e} {k : Val e → Prog (TpuEff nD τ sig Val Λ .tc) α} {Q : α → sProp 𝕄} :
    (owns (c : Thread nD τ) m q X : sProp 𝕄)
      ⊢ iprop((owns (c : Thread nD τ) m q X
          -∗ wp frame (wpE defs 𝒱 (c : Thread nD τ) bd) E (k (X (r.emb (Shape.Idx.first (h1.symm ▸ Nat.one_pos))))) Q)
        -∗ wp frame (wpE defs 𝒱 (c : Thread nD τ) bd) E (smemLoad (p := .tc) m r h1 hp >>= k) Q) := by
  unfold owns
  iintro ⟨%f, %hf, H⟩ Hk
  iapply (wp_smemLoadElt 𝒱 (c : Thread nD τ) bd E (m := m) (r := r) (hw := View.loads_smem_one hp h1)
    (x := Shape.Idx.first (h1.symm ▸ Nat.one_pos)) (k := k) (m.view.set_slice_subset r)) $$ H
  iintro H
  subst hf
  iapply Hk
  iexists f
  isplitr
  · ipureintro; rfl
  · iexact H

/-- The same, the part loaded given a name. -/
theorem wp_vload_as {m : Memref sig .tc .vmem s e} {r : Rect s} {hl : m.view.LoadsAt r.toLoadRect} {q : PosShare TreeShare}
    {X : s.Idx → Val e} {k : (r.shape.Idx → Val e) → Prog (TpuEff nD τ sig Val Λ .tc) α} {Q : α → sProp 𝕄} :
    (owns (c : Thread nD τ) m q X : sProp 𝕄)
      ⊢ iprop((owns (c : Thread nD τ) m q X -∗ ∀ v : r.shape.Idx → Val e, ⌜v = part r X⌝ -∗ wp frame (wpE defs 𝒱 (c : Thread nD τ) bd) E (k v) Q)
        -∗ wp frame (wpE defs 𝒱 (c : Thread nD τ) bd) E (Prog.lift (.load m r.toLoadRect hl) >>= k) Q) := by
  iintro H Hk
  iapply (wp_vload 𝒱 c bd E) $$ H
  iintro H
  iapply Hk $$ H
  ipureintro; rfl

/-- The same, the word given a name. -/
theorem wp_word_as {m : Memref sig .tc .smem s e} {r : Rect s} {h1 : r.shape.numel = 1} {hp : e.packing = 1} {q : PosShare TreeShare}
    {X : s.Idx → Val e} {k : Val e → Prog (TpuEff nD τ sig Val Λ .tc) α} {Q : α → sProp 𝕄} :
    (owns (c : Thread nD τ) m q X : sProp 𝕄)
      ⊢ iprop((owns (c : Thread nD τ) m q X
          -∗ ∀ v : Val e, ⌜v = X (r.emb (Shape.Idx.first (h1.symm ▸ Nat.one_pos)))⌝ -∗ wp frame (wpE defs 𝒱 (c : Thread nD τ) bd) E (k v) Q)
        -∗ wp frame (wpE defs 𝒱 (c : Thread nD τ) bd) E (smemLoad (p := .tc) m r h1 hp >>= k) Q) := by
  iintro H Hk
  iapply (wp_word 𝒱 c bd E) $$ H
  iintro H
  iapply Hk $$ H
  ipureintro; rfl

/-- A side condition that holds. -/
theorem wp_assumed {P : Prop} {d : Decidable P} {k : PLift P → Prog (TpuEff nD τ sig Val Λ .tc) α} {Q : α → sProp 𝕄} (h : P) :
    (wp frame (wpE defs 𝒱 (c : Thread nD τ) bd) E (k ⟨h⟩) Q : sProp 𝕄)
      ⊢ wp frame (wpE defs 𝒱 (c : Thread nD τ) bd) E (Prog.lift (TpuEff.assume P d) >>= k) Q :=
  wp_assume 𝒱 (c : Thread nD τ) bd E h

/-- What a buffer reads once `w` is stored through the rectangle `r`. -/
theorem read_store (v : View sig .tc .vmem s e) (r : Rect s) (f : v.ty.Contents Val) (w : r.shape.Idx → Val e) :
    v.read Val ((v.slice r).write Val f w Finset.univ) = r.overlay (v.read Val f) w := by
  funext y
  by_cases hy : y ∈ r.set
  · obtain ⟨x, rfl⟩ : ∃ x, r.emb x = y := by
      rw [← Rect.map_emb_univ] at hy; simpa using hy
    rw [Rect.overlay_emb]
    exact congrFun ((v.slice r).read_write_univ f w) x
  · rw [Rect.overlay_of_not_mem _ _ _ hy, View.read_apply, View.read_apply, View.write_of_not_mem]
    intro hc
    obtain ⟨x, hx⟩ : ∃ x, v.emb (r.emb x) = v.emb y := by simpa [View.setOn] using hc
    exact hy (v.emb.injective hx ▸ by rw [← Rect.map_emb_univ]; simp)

/-- A store of a vector through a rectangle. -/
theorem wp_vstore {m : Memref sig .tc .vmem s e} {r : Rect s} {w : r.shape.Idx → Val e} {hx : (m.access r).Stores Finset.univ}
    {hm : (Finset.univ : Finset r.shape.Idx) = Finset.univ ∨ ∀ a, r.stride a = 1}
    {X : s.Idx → Val e} {k : PUnit → Prog (TpuEff nD τ sig Val Λ .tc) α} {Q : α → sProp 𝕄} :
    (owns (c : Thread nD τ) m fullShare X : sProp 𝕄)
      ⊢ iprop((owns (c : Thread nD τ) m fullShare (r.overlay X w) -∗ wp frame (wpE defs 𝒱 (c : Thread nD τ) bd) E (k ⟨⟩) Q)
        -∗ wp frame (wpE defs 𝒱 (c : Thread nD τ) bd) E (Prog.lift (.store m r w Finset.univ hx hm) >>= k) Q) := by
  unfold owns
  iintro ⟨%f, %hf, H⟩ Hk
  iapply (wp_store 𝒱 (c : Thread nD τ) bd E (m := m) (r := r) (w := w) (hx := hx) (hm := hm) (k := k)
    (by rw [View.setOn_univ]; exact m.view.set_slice_subset r)) $$ H
  iintro H
  subst hf
  iapply Hk
  iexists _
  isplitr
  swap
  · iexact H
  · ipureintro; exact read_store m.view r f w

/-- The contents `X` with the part at `r` replaced by `g` of it. -/
def alter {γ : Type} (r : Rect s) (g : (r.shape.Idx → γ) → r.shape.Idx → γ) (X : s.Idx → γ) : s.Idx → γ :=
  r.overlay X (g (part r X))

/-- A part loaded, loaded again unread, and stored back altered. -/
theorem wp_alter {m : Memref sig .tc .vmem s e} {r : Rect s} {hl hl' : m.view.LoadsAt r.toLoadRect}
    {g : (r.shape.Idx → Val e) → r.shape.Idx → Val e} {hx : (m.access r).Stores Finset.univ}
    {hm : (Finset.univ : Finset r.shape.Idx) = Finset.univ ∨ ∀ a, r.stride a = 1}
    {X : s.Idx → Val e} {k : PUnit → Prog (TpuEff nD τ sig Val Λ .tc) α} {Q : α → sProp 𝕄} :
    (owns (c : Thread nD τ) m fullShare X : sProp 𝕄)
      ⊢ iprop((owns (c : Thread nD τ) m fullShare (alter r g X) -∗ wp frame (wpE defs 𝒱 (c : Thread nD τ) bd) E (k ⟨⟩) Q)
        -∗ wp frame (wpE defs 𝒱 (c : Thread nD τ) bd) E
          (Prog.lift (.load m r.toLoadRect hl) >>= fun v => Prog.lift (.load m r.toLoadRect hl') >>= fun _ =>
            Prog.lift (.store m r (g v) Finset.univ hx hm) >>= k) Q) := by
  iintro H Hk
  iapply (wp_vload 𝒱 c bd E) $$ H
  iintro H
  iapply (wp_vload 𝒱 c bd E) $$ H
  iintro H
  iapply (wp_vstore 𝒱 c bd E) $$ H
  iintro H
  iapply Hk
  iexact H

/-- A counted loop each of whose trips takes the contents `X` to `f k X`: the fold of the trips. -/
theorem wp_trips {L : Scf.Loop 32} {hok : L.OK} {m : Memref sig .tc .vmem s e}
    {body : Fin L.trips → Unit → Prog (TpuEff nD τ sig Val Λ .tc) Unit} (f : Fin L.trips → (s.Idx → Val e) → s.Idx → Val e)
    (hbody : ∀ (k : Fin L.trips) (X : s.Idx → Val e) (Q : Unit → sProp 𝕄),
      (owns (c : Thread nD τ) m fullShare X : sProp 𝕄)
        ⊢ iprop((owns (c : Thread nD τ) m fullShare (f k X) -∗ Q ())
          -∗ wp frame (wpE defs 𝒱 (c : Thread nD τ) bd) E (body k ()) Q))
    {X : s.Idx → Val e} {k : Unit → Prog (TpuEff nD τ sig Val Λ .tc) α} {Q : α → sProp 𝕄} :
    (owns (c : Thread nD τ) m fullShare X : sProp 𝕄)
      ⊢ iprop((owns (c : Thread nD τ) m fullShare ((List.finRange L.trips).foldl (fun Y j => f j Y) X)
            -∗ wp frame (wpE defs 𝒱 (c : Thread nD τ) bd) E (k ()) Q)
        -∗ wp frame (wpE defs 𝒱 (c : Thread nD τ) bd) E (Scf.Loop.for L hok () body >>= k) Q) := by
  have key := Scf.wp_for_bind frame (wpE defs 𝒱 (c : Thread nD τ) bd) E L.lb L.ub L.st hok () body
    (fun n _ => (owns (c : Thread nD τ) m fullShare (((List.finRange L.trips).take n).foldl (fun Y j => f j Y) X) : sProp 𝕄))
    (by
      intro k acc
      iintro H
      iapply (hbody k _ _) $$ H
      iintro H
      have ht : (List.finRange L.trips).take (k.val + 1) = (List.finRange L.trips).take k.val ++ [k] := by
        rw [List.take_succ_eq_append_getElem (by simp)]; simp
      rw [show (List.finRange (Scf.trips L.lb L.ub L.st)) = List.finRange L.trips from rfl, ht, List.foldl_append]
      iexact H)
    (kk := k) (Q := Q)
  iintro H Hk
  iapply key $$ [H]
  · iexact H
  · iintro %acc H
    iapply Hk
    rw [List.take_of_length_le (by simp)]
    iexact H

/-- A program run before its continuation, the continuation out of sight. -/
theorem wp_seq {β : Type} {p : Prog (TpuEff nD τ sig Val Λ .tc) β} {k : β → Prog (TpuEff nD τ sig Val Λ .tc) α} {K : α → sProp 𝕄} :
    iprop(∀ Q : β → sProp 𝕄, ⌜∀ a, Q a = wp frame (wpE defs 𝒱 (c : Thread nD τ) bd) E (k a) K⌝ -∗
        wp frame (wpE defs 𝒱 (c : Thread nD τ) bd) E p Q)
      ⊢ wp frame (wpE defs 𝒱 (c : Thread nD τ) bd) E (p >>= k) K := by
  rw [wp_bind]
  iintro H
  iapply H
  ipureintro
  exact fun _ => rfl

/-- Contents written another way, and given a name. -/
theorem owns_named {m : Memref sig .tc .vmem s e} {q : PosShare TreeShare} {X : s.Idx → Val e} (Z : s.Idx → Val e) {W : sProp 𝕄} :
    (owns (c : Thread nD τ) m q X : sProp 𝕄) ⊢ iprop(⌜X = Z⌝ -∗ (∀ Y : s.Idx → Val e, ⌜Y = Z⌝ -∗ owns (c : Thread nD τ) m q Y -∗ W) -∗ W) := by
  iintro H %h Hk
  subst h
  iapply Hk $$ %X %rfl H

end Cert.Steps
-- ==== Proof.Body.lean ====
/- The kernel's body at one grid point. -/
module

public import proofs.«01_k».proof.Proof.Gen.KernelIdeal.Launch
public import proofs.«01_k».proof.Proof.Gen.KernelIdeal.Skeleton
public import proofs.«01_k».proof.Proof.Steps
public import Idealize.ShloMosaic.Lib.LoopRemainder

@[expose] public section

set_option maxRecDepth 16384

noncomputable section

namespace Cert.KernelIdeal.Seg

open Cert.KernelIdeal Cert.KernelIdeal.Gen Cert.Steps
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

theorem rows_of {s : BitVec 32} (h : s.toNat < 16) : ∀ a, (![s.toNat, 0] : Fin 2 → Nat) a + S1x512.size a ≤ S16x512.size a := by
  intro a
  match a with
  | 0 => show s.toNat + 1 ≤ 16; omega
  | 1 => show 0 + 512 ≤ 512; omega

theorem chk1_of {lo : BitVec 32} (h : lo.toNat < 16) : k0_chk1 lo := rows_of h

theorem toInt_small {s : BitVec 32} (h : s.toNat < 32) : s.toInt = s.toNat := BitVec.toInt_eq_toNat_of_lt (by omega)

theorem loop_eq (lo hi : BitVec 32) : k0_t1_loop lo hi = ⟨lo + 1#32, hi, 1#32⟩ := by
  show (⟨Scalar.addi lo 1#32, Scalar.addi (Scalar.addi lo 1#32) (Scalar.muli (Scalar.divsi (Scalar.subi hi (Scalar.addi lo 1#32)) 1#32) 1#32), 1#32⟩ : Scf.Loop 32) = _
  rw [Scalar.muli_divsi_one]
  show (⟨lo + 1#32, lo + 1#32 + (hi - (lo + 1#32)), 1#32⟩ : Scf.Loop 32) = _
  rw [BitVec.add_comm (lo + 1#32), BitVec.sub_add_cancel]

theorem above {lo : BitVec 32} (h : lo.toNat < 16) : (lo + 1#32).toNat = lo.toNat + 1 := by
  rw [BitVec.toNat_add]; show (lo.toNat + 1) % 2 ^ 32 = _; omega

/-- The loop runs over the segments strictly between the two, and `hi`. -/
theorem loop_trips {lo hi : BitVec 32} (h : lo.toNat < 16) (h' : hi.toNat < 16) : (k0_t1_loop lo hi).trips = hi.toNat - (lo.toNat + 1) := by
  rw [loop_eq]
  show ((hi.toInt - (lo + 1#32).toInt + (1#32 : BitVec 32).toInt - 1) / (1#32 : BitVec 32).toInt).toNat = _
  rw [show (1#32 : BitVec 32).toInt = 1 by decide, toInt_small (by omega), toInt_small (by rw [above h]; omega), above h]
  omega

theorem loop_iv {lo : BitVec 32} (h : lo.toNat < 16) {k : Nat} (hk : lo.toNat + 1 + k < 32) : (Scf.iv (Scalar.addi lo 1#32) 1#32 k).toNat = lo.toNat + 1 + k := by
  show (lo + 1#32 + BitVec.ofNat 32 k * 1#32).toNat = _
  rw [BitVec.mul_one, BitVec.toNat_add, above h, BitVec.toNat_ofNat]
  omega

theorem chk2_of {lo hi : BitVec 32} (h : lo.toNat < 16) (h' : hi.toNat < 16) : k0_chk2 lo hi := by
  refine ⟨rows_of h', fun _ => ?_, fun k _ => ?_, fun _ => Scf.rem_ok _ _, fun k _ => (Scf.rem_no_trip _ _ k).elim⟩
  · have ht := loop_trips h h'
    rw [loop_eq] at ht ⊢
    refine ⟨show 0 < (1#32 : BitVec 32).toInt by decide, ?_⟩
    show (lo + 1#32).toInt + ((Scf.Loop.mk (lo + 1#32) hi 1#32).trips : Int) * (1#32 : BitVec 32).toInt < _
    rw [ht, show (1#32 : BitVec 32).toInt = 1 by decide, toInt_small (by rw [above h]; omega), above h]
    omega
  · have hk : k.val < hi.toNat - (lo.toNat + 1) := lt_of_lt_of_eq k.isLt (loop_trips h h')
    exact rows_of (s := Scf.iv (Scalar.addi lo 1#32) 1#32 k.val) (by rw [loop_iv h (by omega)]; omega)

/-- The row of the output that starts at the offset `o`. -/
abbrev row (o : Fin 2 → Nat) (h : ∀ a, o a + S1x512.size a ≤ S16x512.size a) : Rect S16x512 := Rect.unit (s := S16x512) o S1x512.size h

/-- The rows strictly above `lo` and up to `hi` raised one after another, when there are any besides `hi`. -/
def between (D : FVec F S256x512 .f32) (S : IVec S256x1 32) (lo hi : BitVec 32) (h : k0_chk2 lo hi) (X : Vec F S16x512 .f32) : Vec F S16x512 .f32 :=
  if hc : k0_cond2 lo hi = 1#1 then
    (List.finRange (k0_t2_loop lo hi).trips).foldl (fun Y k => alter (row (k0_off6 lo hi k) (k0_off6_inb lo hi h k hc)) (k0_pay14 D S lo hi k) Y)
      ((List.finRange (k0_t1_loop lo hi).trips).foldl (fun Y k => alter (row (k0_off5 lo hi k) (k0_off5_inb lo hi h k hc)) (k0_pay13 D S lo hi k) Y) X)
  else X

theorem wp_between (c : Dev nD) {arg6 : Memref sig .tc .vmem S16x512 .f32} (D : FVec F S256x512 .f32) (S : IVec S256x1 32) (lo hi : BitVec 32) (h : k0_chk2 lo hi)
    {X : Vec F S16x512 .f32} {E : Set ℕ} {α : Type} {jp : Prog (TpuEff nD τ sig (Elt F) Λ₀ .tc) α} {Q : α → sProp 𝕄} :
    (owns (c : Thread nD τ) arg6 fullShare X : sProp 𝕄)
      ⊢ iprop((owns (c : Thread nD τ) arg6 fullShare (between D S lo hi h X) -∗ wp frame (wpE (defs₀ (F := F)) Variants.none c none) E jp Q)
        -∗ wp frame (wpE (defs₀ (F := F)) Variants.none c none) E
          (if hc : k0_cond2 lo hi = 1#1 then
            (k0_t1_loop lo hi).for (k0_t1_ok lo hi h hc) PUnit.unit (fun k _ =>
                Prog.lift (.load arg6 (row (k0_off5 lo hi k) (k0_off5_inb lo hi h k hc)).toLoadRect (View.loadsAt_vmem h_S1x512)) >>= fun v =>
                Prog.lift (.load arg6 (row (k0_off5 lo hi k) (k0_off5_inb lo hi h k hc)).toLoadRect (View.loadsAt_vmem h_S1x512)) >>= fun _ =>
                Prog.lift (.store arg6 (row (k0_off5 lo hi k) (k0_off5_inb lo hi h k hc)) (k0_pay13 D S lo hi k v) Finset.univ
                  (View.stores_vmem_bits_univ h_S1x512 rfl) (.inl rfl)) >>= fun _ => pure PUnit.unit) >>= fun _ =>
            (k0_t2_loop lo hi).for (k0_t2_ok lo hi h hc) PUnit.unit (fun k _ =>
                Prog.lift (.load arg6 (row (k0_off6 lo hi k) (k0_off6_inb lo hi h k hc)).toLoadRect (View.loadsAt_vmem h_S1x512)) >>= fun v =>
                Prog.lift (.load arg6 (row (k0_off6 lo hi k) (k0_off6_inb lo hi h k hc)).toLoadRect (View.loadsAt_vmem h_S1x512)) >>= fun _ =>
                Prog.lift (.store arg6 (row (k0_off6 lo hi k) (k0_off6_inb lo hi h k hc)) (k0_pay14 D S lo hi k v) Finset.univ
                  (View.stores_vmem_bits_univ h_S1x512 rfl) (.inl rfl)) >>= fun _ => pure PUnit.unit) >>= fun _ => jp
          else jp) Q) := by
  unfold between
  by_cases hc : k0_cond2 lo hi = 1#1
  · rw [dif_pos hc, dif_pos hc]
    iintro H Hk
    iapply (wp_trips Variants.none c none E (fun k Y => alter (row (k0_off5 lo hi k) (k0_off5_inb lo hi h k hc)) (k0_pay13 D S lo hi k) Y)
      (by
        intro k Y Q
        iintro H Hk
        iapply (wp_alter Variants.none c none E) $$ H
        iintro H
        rw [wp_pure]
        imodintro
        iapply Hk
        iexact H)) $$ H
    iintro H
    iapply (wp_trips Variants.none c none E (fun k Y => alter (row (k0_off6 lo hi k) (k0_off6_inb lo hi h k hc)) (k0_pay14 D S lo hi k) Y)
      (by
        intro k Y Q
        iintro H Hk
        iapply (wp_alter Variants.none c none E) $$ H
        iintro H
        rw [wp_pure]
        imodintro
        iapply Hk
        iexact H)) $$ H
    iintro H
    iapply Hk
    iexact H
  · rw [dif_neg hc, dif_neg hc]
    iintro H Hk
    iapply Hk
    iexact H

/-- One row's part of the output raised to the greatest of the rows of `D` whose segment is `s`. -/
def raised (D : FVec F S256x512 .f32) (S : IVec S256x1 32) (s : BitVec 32) (v : Vec F S1x512 .f32) : FVec F S1x512 .f32 :=
  maximumf (shapeCast S1x512 v shapeCasts_S1x512_S1x512)
    (shapeCast S1x512
      (multiReduction .maximumf [0] S512
        (select (broadcastTo S256x512 (shapeCast S256x1 (cmpi .eq S (broadcast S256x1 s)) shapeCasts_S256x1_S256x1) broadcasts_S256x1_S256x512)
          D (broadcast S256x512 (Scalar.ofBits .f32 0xFF800000#32)))
        0xFF800000#32 reduces_S256x512_S512 (.inl rfl) rfl)
      shapeCasts_S512_S1x512)

/-- A sub-block's work on the output: its first segment's row raised, its last one's, then those between. -/
def settle (D : FVec F S256x512 .f32) (S : IVec S256x1 32) (lo hi : BitVec 32) (h : k0_chk1 lo) (h' : k0_chk2 lo hi) (X : Vec F S16x512 .f32) : Vec F S16x512 .f32 :=
  between D S lo hi h' (alter (row (k0_off4 hi) (k0_off4_inb lo hi h')) (raised D S hi) (alter (row (k0_off3 lo) (k0_off3_inb lo h)) (raised D S lo) X))

theorem prod_two (w : Vec F S256x512 .bf16) (u : Vec F S256x256 .f32) : k0_pay15 (k0_pay7 w) u = k0_pay8 w u := rfl
theorem prod_six (w : Vec F S256x512 .bf16) (u : Vec F S256x256 .f32) : k0_pay42 (k0_pay7 w) u = k0_pay8 w u := rfl
theorem seg_two (s : Vec F S256x1 .i32) : k0_pay16 s = k0_pay9 s := rfl
theorem seg_six (s : Vec F S256x1 .i32) : k0_pay43 s = k0_pay9 s := rfl

/-- The second sub-block's first segment, whose maximum is taken one part before it is stored. -/
theorem raised_two (w : Vec F S256x512 .bf16) (u : Vec F S256x256 .f32) (s : Vec F S256x1 .i32) (lo : Elt F .i32) :
    k0_pay18 (k0_pay17 (k0_pay7 w) u s lo) = raised (k0_pay8 w u) (k0_pay9 s) lo := by
  funext v
  unfold k0_pay18 k0_pay17 raised
  rw [prod_two, seg_two]

/-- The sixth sub-block's last segment likewise. -/
theorem raised_six (w : Vec F S256x512 .bf16) (u : Vec F S256x256 .f32) (s : Vec F S256x1 .i32) (hi : Elt F .i32) :
    k0_pay46 (k0_pay45 (k0_pay7 w) u s hi) = raised (k0_pay8 w u) (k0_pay9 s) hi := by
  funext v
  unfold k0_pay46 k0_pay45 raised
  rw [prod_six, seg_six]

theorem rows_inb (t : Fin 8) (w n : Nat) (h : n = w) : ∀ a, (![256 * t.val, 0] : Fin 2 → Nat) a + (![256, n] : Fin 2 → Nat) a ≤ (![2048, w] : Fin 2 → Nat) a := by
  subst h
  intro a
  match a with
  | 0 => show 256 * t.val + 256 ≤ 2048; omega
  | 1 => show 0 + n ≤ n; omega

/-- The number of the word of the table that holds sub-block `t`'s first segment, and of the one that holds its last. -/
def firstNo (i : grid0.Coords) (t : Fin 8) : BitVec 32 :=
  Scalar.muli 2#32 (Scalar.addi (Scalar.muli (BitVec.ofNat 32 (i 0).val) 8#32) (BitVec.ofNat 32 t.val))
def lastNo (i : grid0.Coords) (t : Fin 8) : BitVec 32 := Scalar.addi (firstNo i t) 1#32

theorem firstNo_toNat (i : grid0.Coords) (t : Fin 8) : (firstNo i t).toNat = 16 * (i 0).val + 2 * t.val := by
  have h0 : (i 0).val < 8 := (i 0).isLt
  unfold firstNo Scalar.addi Scalar.muli IntOp.addi IntOp.muli
  simp only [BitVec.toNat_add, BitVec.toNat_mul, BitVec.toNat_ofNat]
  omega

theorem lastNo_toNat (i : grid0.Coords) (t : Fin 8) : (lastNo i t).toNat = 16 * (i 0).val + 2 * t.val + 1 := by
  have h0 : (i 0).val < 8 := (i 0).isLt
  show (firstNo i t + 1#32).toNat = _
  rw [BitVec.toNat_add, firstNo_toNat]
  show (_ + 1) % _ = _
  omega

theorem word_inb {n : BitVec 32} (h : n.toNat < 128) : ∀ a, (![n.toNat] : Fin 1 → Nat) a + S1.size a ≤ S128.size a := by
  intro a
  match a with
  | 0 => show n.toNat + 1 ≤ 128; omega

/-- Where in the table the word of a number is. -/
def wordAt (n : BitVec 32) (h : n.toNat < 128) : S128.Idx :=
  (Rect.unit (s := S128) ![n.toNat] S1.size (word_inb h)).emb (Shape.Idx.first (numel1_S1.symm ▸ Nat.one_pos))

theorem firstNo_lt (i : grid0.Coords) (t : Fin 8) : (firstNo i t).toNat < 128 := by
  have h0 : (i 0).val < 8 := (i 0).isLt
  rw [firstNo_toNat]; omega
theorem lastNo_lt (i : grid0.Coords) (t : Fin 8) : (lastNo i t).toNat < 128 := by
  have h0 : (i 0).val < 8 := (i 0).isLt
  rw [lastNo_toNat]; omega

/-- The products of a sub-block's rows. -/
def prods (x1 : Vec F S2048x256 .f32) (x2 : Vec F S256x512 .bf16) (t : Fin 8) : FVec F S256x512 .f32 :=
  k0_pay8 (part (Rect.unit (s := S256x512) ![0, 0] S256x512.size inb_S256x512_S256x512_0_0) x2)
    (part (Rect.unit (s := S2048x256) ![256 * t.val, 0] S256x256.size (rows_inb t 256 256 rfl)) x1)

/-- The segments of a sub-block's rows. -/
def segs (x0 : Vec F S2048x1 .i32) (t : Fin 8) : IVec S256x1 32 :=
  k0_pay9 (part (Rect.unit (s := S2048x1) ![256 * t.val, 0] S256x1.size (rows_inb t 1 1 rfl)) x0)

/-- Sub-block `t` of the grid point `i`. -/
def sub (i : grid0.Coords) (T : Vec F S128 .i32) (hT : ∀ y, BitVec.toNat (w := 32) (T y) < 16) (x0 : Vec F S2048x1 .i32) (x1 : Vec F S2048x256 .f32)
    (x2 : Vec F S256x512 .bf16) (t : Fin 8) (X : Vec F S16x512 .f32) : Vec F S16x512 .f32 :=
  settle (prods x1 x2 t) (segs x0 t) (T (wordAt (firstNo i t) (firstNo_lt i t))) (T (wordAt (lastNo i t) (lastNo_lt i t))) (chk1_of (hT _)) (chk2_of (hT _) (hT _)) X

abbrev whole : Rect S16x512 := Rect.unit (s := S16x512) ![0, 0] S16x512.size inb_S16x512_S16x512_0_0
abbrev wholeRow : Rect S1x512 := Rect.unit (s := S1x512) ![0, 0] S1x512.size inb_S1x512_S1x512_0_0

/-- Whether the grid point is number `n`, as the kernel asks it. -/
abbrev isPoint (i : grid0.Coords) (n : BitVec 32) : Prop :=
  Scalar.cmpi CmpIPredicate.ne (Scalar.extui (Scalar.cmpi CmpIPredicate.eq (BitVec.ofNat 32 (i 0).val) n)) 0#32 = 1#1

/-- At the first point the output is started at minus infinity. -/
def started (i : grid0.Coords) (X : Vec F S16x512 .f32) : Vec F S16x512 .f32 :=
  if isPoint i 0#32 then whole.overlay X (k0_pay6 (F := F)) else X

/-- At the last point the bias is added, and what falls below zero is set to zero. -/
def finished (i : grid0.Coords) (x3 : Vec F S1x512 .f32) (X : Vec F S16x512 .f32) : Vec F S16x512 .f32 :=
  if isPoint i 7#32 then whole.overlay X (k0_pay5 (part whole X) (part wholeRow x3) (part wholeRow x3)) else X

/-- What the body leaves in the output that held `X`. -/
def after (i : grid0.Coords) (T : Vec F S128 .i32) (hT : ∀ y, BitVec.toNat (w := 32) (T y) < 16) (x0 : Vec F S2048x1 .i32) (x1 : Vec F S2048x256 .f32)
    (x2 : Vec F S256x512 .bf16) (x3 : Vec F S1x512 .f32) (X : Vec F S16x512 .f32) : Vec F S16x512 .f32 :=
  finished i x3 (sub i T hT x0 x1 x2 7 (sub i T hT x0 x1 x2 6 (sub i T hT x0 x1 x2 5 (sub i T hT x0 x1 x2 4
    (sub i T hT x0 x1 x2 3 (sub i T hT x0 x1 x2 2 (sub i T hT x0 x1 x2 1 (sub i T hT x0 x1 x2 0 (started i X)))))))))

theorem wp_started (c : Dev nD) (i : grid0.Coords) {arg6 : Memref sig .tc .vmem S16x512 .f32} {E : Set ℕ} {α : Type}
    {jp : Prog (TpuEff nD τ sig (Elt F) Λ₀ .tc) α} {Q : α → sProp 𝕄} {X : Vec F S16x512 .f32} :
    (owns (c : Thread nD τ) arg6 fullShare X : sProp 𝕄)
      ⊢ iprop((owns (c : Thread nD τ) arg6 fullShare (started i X) -∗ wp frame (wpE (defs₀ (F := F)) Variants.none c none) E jp Q)
        -∗ wp frame (wpE (defs₀ (F := F)) Variants.none c none) E
          (if _h : isPoint i 0#32 then
            Prog.lift (.load arg6 whole.toLoadRect (View.loadsAt_vmem h_S16x512)) >>= fun _ =>
            Prog.lift (.store arg6 whole (k0_pay6 (F := F)) Finset.univ (View.stores_vmem_bits_univ h_S16x512 rfl) (.inl rfl)) >>= fun _ => jp
          else jp) Q) := by
  unfold started
  by_cases h : isPoint i 0#32
  · rw [dif_pos h, if_pos h]
    iintro H Hk
    iapply (wp_vload Variants.none c none E) $$ H; iintro H
    iapply (wp_vstore Variants.none c none E) $$ H; iintro H
    iapply Hk
    iexact H
  · rw [dif_neg h, if_neg h]
    iintro H Hk
    iapply Hk
    iexact H

theorem wp_finished (c : Dev nD) (i : grid0.Coords) {arg5 : Memref sig .tc .vmem S1x512 .f32} {arg6 : Memref sig .tc .vmem S16x512 .f32} {E : Set ℕ} {α : Type}
    {jp : Prog (TpuEff nD τ sig (Elt F) Λ₀ .tc) α} {Q : α → sProp 𝕄} {x3 : Vec F S1x512 .f32} {X : Vec F S16x512 .f32} :
    iprop(owns (c : Thread nD τ) arg5 fullShare x3 ∗ owns (c : Thread nD τ) arg6 fullShare X)
      ⊢ iprop((iprop(owns (c : Thread nD τ) arg5 fullShare x3 ∗ owns (c : Thread nD τ) arg6 fullShare (finished i x3 X))
            -∗ wp frame (wpE (defs₀ (F := F)) Variants.none c none) E jp Q)
        -∗ wp frame (wpE (defs₀ (F := F)) Variants.none c none) E
          (if _h : isPoint i 7#32 then
            Prog.lift (.load arg6 whole.toLoadRect (View.loadsAt_vmem h_S16x512)) >>= fun u =>
            Prog.lift (.load arg5 wholeRow.toLoadRect (View.loadsAt_vmem h_S1x512)) >>= fun v =>
            Prog.lift (.load arg5 wholeRow.toLoadRect (View.loadsAt_vmem h_S1x512)) >>= fun v' =>
            Prog.lift (.load arg6 whole.toLoadRect (View.loadsAt_vmem h_S16x512)) >>= fun _ =>
            Prog.lift (.store arg6 whole (k0_pay5 u v v') Finset.univ (View.stores_vmem_bits_univ h_S16x512 rfl) (.inl rfl)) >>= fun _ => jp
          else jp) Q) := by
  unfold finished
  by_cases h : isPoint i 7#32
  · rw [dif_pos h, if_pos h]
    iintro ⟨H5, H⟩ Hk
    iapply (wp_vload Variants.none c none E) $$ H; iintro H
    iapply (wp_vload Variants.none c none E) $$ H5; iintro H5
    iapply (wp_vload Variants.none c none E) $$ H5; iintro H5
    iapply (wp_vload Variants.none c none E) $$ H; iintro H
    iapply (wp_vstore Variants.none c none E) $$ H; iintro H
    iapply Hk
    isplitl [H5]
    · iexact H5
    · iexact H
  · rw [dif_neg h, if_neg h]
    iintro H Hk
    iapply Hk
    iexact H

set_option maxHeartbeats 4000000 in
/-- The body at a grid point, on buffers owned whole: the output ends as `after` says, the others as they were. -/
theorem body_run (c : Dev nD) (i : grid0.Coords) (arg1 : Memref sig .tc .smem S128 .i32) (harg1 : arg1.IsWhole) (arg2 : Memref sig .tc .vmem S2048x1 .i32) (harg2 : arg2.IsWhole)
    (arg3 : Memref sig .tc .vmem S2048x256 .f32) (harg3 : arg3.IsWhole) (arg4 : Memref sig .tc .vmem S256x512 .bf16) (harg4 : arg4.IsWhole)
    (arg5 : Memref sig .tc .vmem S1x512 .f32) (harg5 : arg5.IsWhole) (arg6 : Memref sig .tc .vmem S16x512 .f32) (harg6 : arg6.IsWhole)
    (q : PosShare TreeShare) (T : Vec F S128 .i32) (hT : ∀ y, BitVec.toNat (w := 32) (T y) < 16)
    (x0 : Vec F S2048x1 .i32) (x1 : Vec F S2048x256 .f32) (x2 : Vec F S256x512 .bf16) (x3 : Vec F S1x512 .f32) (X : Vec F S16x512 .f32)
    (E : Set ℕ) (K : PUnit → sProp 𝕄) :
    iprop(owns (c : Thread nD τ) arg1 q T ∗ owns (c : Thread nD τ) arg2 fullShare x0 ∗ owns (c : Thread nD τ) arg3 fullShare x1
        ∗ owns (c : Thread nD τ) arg4 fullShare x2 ∗ owns (c : Thread nD τ) arg5 fullShare x3 ∗ owns (c : Thread nD τ) arg6 fullShare X
        ∗ (iprop(owns (c : Thread nD τ) arg1 q T ∗ owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (after i T hT x0 x1 x2 x3 X)) -∗ K ⟨⟩))
      ⊢ wp frame (wpE (defs₀ (F := F)) Variants.none c none) E (cc0__body i arg1 harg1 arg2 harg2 arg3 harg3 arg4 harg4 arg5 harg5 arg6 harg6) K := by
  iintro ⟨H1, H2, H3, H4, H5, H6, Hk⟩
  rw [cc0__body_eq_skeleton]; unfold cc0__body_skel
  -- the first part
  iapply (wp_seq Variants.none c none E); iintro %Q %hQ
  rw [k0_part1_eq_skeleton]; unfold k0_part1_skel
  try dsimp (config := {proj := false}) only
  iapply (wp_started c i) $$ H6; iintro H6
  iapply (owns_named c (started i X)) $$ H6 []
  · ipureintro; rfl
  iintro %X0 %hX0 H6
  iapply (wp_vload_as Variants.none c none E) $$ H4; iintro H4 %w %hw
  iapply (wp_vload_as Variants.none c none E) $$ H3; iintro H3 %u0 %hu0
  iapply (wp_vload_as Variants.none c none E) $$ H2; iintro H2 %s0 %hs0
  iapply (wp_word_as Variants.none c none E) $$ H1; iintro H1 %lo0 %hlo0
  have hl0 : BitVec.toNat (w := 32) lo0 < 16 := hlo0 ▸ hT _
  iapply (wp_assumed Variants.none c none E (chk1_of hl0))
  iapply (wp_word_as Variants.none c none E) $$ H1; iintro H1 %hi0 %hhi0
  have hh0 : BitVec.toNat (w := 32) hi0 < 16 := hhi0 ▸ hT _
  iapply (wp_assumed Variants.none c none E (chk2_of hl0 hh0))
  iapply (wp_alter Variants.none c none E) $$ H6; iintro H6
  rw [wp_pure, hQ]; imodintro; clear hQ Q
  try dsimp (config := {proj := false}) only
  -- the second part
  iapply (wp_seq Variants.none c none E); iintro %Q %hQ
  rw [k0_part2_eq_skeleton]; unfold k0_part2_skel
  try dsimp (config := {proj := false}) only
  iapply (wp_alter Variants.none c none E) $$ H6; iintro H6
  iapply (wp_between c (k0_pay8 w u0) (k0_pay9 s0) lo0 hi0 (chk2_of hl0 hh0)) $$ H6; iintro H6
  iapply (owns_named c (settle (k0_pay8 w u0) (k0_pay9 s0) lo0 hi0 (chk1_of hl0) (chk2_of hl0 hh0) X0)) $$ H6 []
  · ipureintro; rfl
  iintro %X1 %hX1 H6
  iapply (wp_vload_as Variants.none c none E) $$ H3; iintro H3 %u1 %hu1
  iapply (wp_vload_as Variants.none c none E) $$ H2; iintro H2 %s1 %hs1
  iapply (wp_word_as Variants.none c none E) $$ H1; iintro H1 %lo1 %hlo1
  have hl1 : BitVec.toNat (w := 32) lo1 < 16 := hlo1 ▸ hT _
  iapply (wp_assumed Variants.none c none E (chk1_of hl1))
  iapply (wp_word_as Variants.none c none E) $$ H1; iintro H1 %hi1 %hhi1
  have hh1 : BitVec.toNat (w := 32) hi1 < 16 := hhi1 ▸ hT _
  iapply (wp_assumed Variants.none c none E (chk2_of hl1 hh1))
  rw [wp_pure, hQ]; imodintro; clear hQ Q
  try dsimp (config := {proj := false}) only
  -- the third part
  iapply (wp_seq Variants.none c none E); iintro %Q %hQ
  rw [k0_part3_eq_skeleton]; unfold k0_part3_skel
  try dsimp (config := {proj := false}) only
  iapply (wp_alter Variants.none c none E) $$ H6; iintro H6
  iapply (wp_alter Variants.none c none E) $$ H6; iintro H6
  iapply (wp_between c (k0_pay8 w u1) (k0_pay9 s1) lo1 hi1 (chk2_of hl1 hh1)) $$ H6; iintro H6
  iapply (owns_named c (settle (k0_pay8 w u1) (k0_pay9 s1) lo1 hi1 (chk1_of hl1) (chk2_of hl1 hh1) X1)) $$ H6 []
  · ipureintro; rw [raised_two]; rfl
  iintro %X2 %hX2 H6
  iapply (wp_vload_as Variants.none c none E) $$ H3; iintro H3 %u2 %hu2
  iapply (wp_vload_as Variants.none c none E) $$ H2; iintro H2 %s2 %hs2
  iapply (wp_word_as Variants.none c none E) $$ H1; iintro H1 %lo2 %hlo2
  have hl2 : BitVec.toNat (w := 32) lo2 < 16 := hlo2 ▸ hT _
  iapply (wp_assumed Variants.none c none E (chk1_of hl2))
  iapply (wp_word_as Variants.none c none E) $$ H1; iintro H1 %hi2 %hhi2
  have hh2 : BitVec.toNat (w := 32) hi2 < 16 := hhi2 ▸ hT _
  iapply (wp_assumed Variants.none c none E (chk2_of hl2 hh2))
  rw [wp_pure, hQ]; imodintro; clear hQ Q
  try dsimp (config := {proj := false}) only
  -- the fourth part
  iapply (wp_seq Variants.none c none E); iintro %Q %hQ
  rw [k0_part4_eq_skeleton]; unfold k0_part4_skel
  try dsimp (config := {proj := false}) only
  iapply (wp_alter Variants.none c none E) $$ H6; iintro H6
  iapply (wp_alter Variants.none c none E) $$ H6; iintro H6
  iapply (wp_between c (k0_pay8 w u2) (k0_pay9 s2) lo2 hi2 (chk2_of hl2 hh2)) $$ H6; iintro H6
  iapply (owns_named c (settle (k0_pay8 w u2) (k0_pay9 s2) lo2 hi2 (chk1_of hl2) (chk2_of hl2 hh2) X2)) $$ H6 []
  · ipureintro; rfl
  iintro %X3 %hX3 H6
  iapply (wp_vload_as Variants.none c none E) $$ H3; iintro H3 %u3 %hu3
  iapply (wp_vload_as Variants.none c none E) $$ H2; iintro H2 %s3 %hs3
  rw [wp_pure, hQ]; imodintro; clear hQ Q
  try dsimp (config := {proj := false}) only
  -- the fifth part
  iapply (wp_seq Variants.none c none E); iintro %Q %hQ
  rw [k0_part5_eq_skeleton]; unfold k0_part5_skel
  try dsimp (config := {proj := false}) only
  iapply (wp_word_as Variants.none c none E) $$ H1; iintro H1 %lo3 %hlo3
  have hl3 : BitVec.toNat (w := 32) lo3 < 16 := hlo3 ▸ hT _
  iapply (wp_assumed Variants.none c none E (chk1_of hl3))
  iapply (wp_word_as Variants.none c none E) $$ H1; iintro H1 %hi3 %hhi3
  have hh3 : BitVec.toNat (w := 32) hi3 < 16 := hhi3 ▸ hT _
  iapply (wp_assumed Variants.none c none E (chk2_of hl3 hh3))
  iapply (wp_alter Variants.none c none E) $$ H6; iintro H6
  iapply (wp_alter Variants.none c none E) $$ H6; iintro H6
  iapply (wp_between c (k0_pay8 w u3) (k0_pay9 s3) lo3 hi3 (chk2_of hl3 hh3)) $$ H6; iintro H6
  iapply (owns_named c (settle (k0_pay8 w u3) (k0_pay9 s3) lo3 hi3 (chk1_of hl3) (chk2_of hl3 hh3) X3)) $$ H6 []
  · ipureintro; rfl
  iintro %X4 %hX4 H6
  iapply (wp_vload_as Variants.none c none E) $$ H3; iintro H3 %u4 %hu4
  rw [wp_pure, hQ]; imodintro; clear hQ Q
  try dsimp (config := {proj := false}) only
  -- the sixth part
  iapply (wp_seq Variants.none c none E); iintro %Q %hQ
  rw [k0_part6_eq_skeleton]; unfold k0_part6_skel
  try dsimp (config := {proj := false}) only
  iapply (wp_vload_as Variants.none c none E) $$ H2; iintro H2 %s4 %hs4
  iapply (wp_word_as Variants.none c none E) $$ H1; iintro H1 %lo4 %hlo4
  have hl4 : BitVec.toNat (w := 32) lo4 < 16 := hlo4 ▸ hT _
  iapply (wp_assumed Variants.none c none E (chk1_of hl4))
  iapply (wp_word_as Variants.none c none E) $$ H1; iintro H1 %hi4 %hhi4
  have hh4 : BitVec.toNat (w := 32) hi4 < 16 := hhi4 ▸ hT _
  iapply (wp_assumed Variants.none c none E (chk2_of hl4 hh4))
  iapply (wp_alter Variants.none c none E) $$ H6; iintro H6
  iapply (wp_alter Variants.none c none E) $$ H6; iintro H6
  rw [wp_pure, hQ]; imodintro; clear hQ Q
  try dsimp (config := {proj := false}) only
  -- the seventh part
  iapply (wp_seq Variants.none c none E); iintro %Q %hQ
  rw [k0_part7_eq_skeleton]; unfold k0_part7_skel
  try dsimp (config := {proj := false}) only
  iapply (wp_between c (k0_pay8 w u4) (k0_pay9 s4) lo4 hi4 (chk2_of hl4 hh4)) $$ H6; iintro H6
  iapply (owns_named c (settle (k0_pay8 w u4) (k0_pay9 s4) lo4 hi4 (chk1_of hl4) (chk2_of hl4 hh4) X4)) $$ H6 []
  · ipureintro; rfl
  iintro %X5 %hX5 H6
  iapply (wp_vload_as Variants.none c none E) $$ H3; iintro H3 %u5 %hu5
  iapply (wp_vload_as Variants.none c none E) $$ H2; iintro H2 %s5 %hs5
  iapply (wp_word_as Variants.none c none E) $$ H1; iintro H1 %lo5 %hlo5
  have hl5 : BitVec.toNat (w := 32) lo5 < 16 := hlo5 ▸ hT _
  iapply (wp_assumed Variants.none c none E (chk1_of hl5))
  iapply (wp_word_as Variants.none c none E) $$ H1; iintro H1 %hi5 %hhi5
  have hh5 : BitVec.toNat (w := 32) hi5 < 16 := hhi5 ▸ hT _
  iapply (wp_assumed Variants.none c none E (chk2_of hl5 hh5))
  iapply (wp_alter Variants.none c none E) $$ H6; iintro H6
  rw [wp_pure, hQ]; imodintro; clear hQ Q
  try dsimp (config := {proj := false}) only
  -- the eighth part
  iapply (wp_seq Variants.none c none E); iintro %Q %hQ
  rw [k0_part8_eq_skeleton]; unfold k0_part8_skel
  try dsimp (config := {proj := false}) only
  iapply (wp_alter Variants.none c none E) $$ H6; iintro H6
  iapply (wp_between c (k0_pay8 w u5) (k0_pay9 s5) lo5 hi5 (chk2_of hl5 hh5)) $$ H6; iintro H6
  iapply (owns_named c (settle (k0_pay8 w u5) (k0_pay9 s5) lo5 hi5 (chk1_of hl5) (chk2_of hl5 hh5) X5)) $$ H6 []
  · ipureintro; rw [raised_six]; rfl
  iintro %X6 %hX6 H6
  iapply (wp_vload_as Variants.none c none E) $$ H3; iintro H3 %u6 %hu6
  iapply (wp_vload_as Variants.none c none E) $$ H2; iintro H2 %s6 %hs6
  iapply (wp_word_as Variants.none c none E) $$ H1; iintro H1 %lo6 %hlo6
  have hl6 : BitVec.toNat (w := 32) lo6 < 16 := hlo6 ▸ hT _
  iapply (wp_assumed Variants.none c none E (chk1_of hl6))
  iapply (wp_word_as Variants.none c none E) $$ H1; iintro H1 %hi6 %hhi6
  have hh6 : BitVec.toNat (w := 32) hi6 < 16 := hhi6 ▸ hT _
  iapply (wp_assumed Variants.none c none E (chk2_of hl6 hh6))
  iapply (wp_vload Variants.none c none E) $$ H6; iintro H6
  rw [wp_pure, hQ]; imodintro; clear hQ Q
  try dsimp (config := {proj := false}) only
  -- the ninth part
  iapply (wp_seq Variants.none c none E); iintro %Q %hQ
  rw [k0_part9_eq_skeleton]; unfold k0_part9_skel
  try dsimp (config := {proj := false}) only
  iapply (wp_vload Variants.none c none E) $$ H6; iintro H6
  iapply (wp_vstore Variants.none c none E) $$ H6; iintro H6
  iapply (wp_alter Variants.none c none E) $$ H6; iintro H6
  iapply (wp_between c (k0_pay8 w u6) (k0_pay9 s6) lo6 hi6 (chk2_of hl6 hh6)) $$ H6; iintro H6
  iapply (owns_named c (settle (k0_pay8 w u6) (k0_pay9 s6) lo6 hi6 (chk1_of hl6) (chk2_of hl6 hh6) X6)) $$ H6 []
  · ipureintro; rfl
  iintro %X7 %hX7 H6
  iapply (wp_vload_as Variants.none c none E) $$ H3; iintro H3 %u7 %hu7
  iapply (wp_vload_as Variants.none c none E) $$ H2; iintro H2 %s7 %hs7
  iapply (wp_word_as Variants.none c none E) $$ H1; iintro H1 %lo7 %hlo7
  have hl7 : BitVec.toNat (w := 32) lo7 < 16 := hlo7 ▸ hT _
  iapply (wp_assumed Variants.none c none E (chk1_of hl7))
  iapply (wp_word_as Variants.none c none E) $$ H1; iintro H1 %hi7 %hhi7
  have hh7 : BitVec.toNat (w := 32) hi7 < 16 := hhi7 ▸ hT _
  iapply (wp_assumed Variants.none c none E (chk2_of hl7 hh7))
  rw [wp_pure, hQ]; imodintro; clear hQ Q
  try dsimp (config := {proj := false}) only
  -- the rest
  iapply (wp_alter Variants.none c none E) $$ H6; iintro H6
  iapply (wp_alter Variants.none c none E) $$ H6; iintro H6
  iapply (wp_between c (k0_pay8 w u7) (k0_pay9 s7) lo7 hi7 (chk2_of hl7 hh7)) $$ H6; iintro H6
  iapply (owns_named c (settle (k0_pay8 w u7) (k0_pay9 s7) lo7 hi7 (chk1_of hl7) (chk2_of hl7 hh7) X7)) $$ H6 []
  · ipureintro; rfl
  iintro %X8 %hX8 H6
  iapply (wp_finished c i) $$ [H5 H6]
  · isplitl [H5]
    · iexact H5
    · iexact H6
  iintro ⟨H5, H6⟩
  rw [wp_pure]; imodintro
  iapply Hk
  isplitl [H1]; · iexact H1
  isplitl [H2]; · iexact H2
  isplitl [H3]; · iexact H3
  isplitl [H4]; · iexact H4
  isplitl [H5]; · iexact H5
  have key : finished i x3 X8 = after i T hT x0 x1 x2 x3 X := by
    subst hX1 hu0 hs0 hlo0 hhi0
    subst hX2 hu1 hs1 hlo1 hhi1
    subst hX3 hu2 hs2 hlo2 hhi2
    subst hX4 hu3 hs3 hlo3 hhi3
    subst hX5 hu4 hs4 hlo4 hhi4
    subst hX6 hu5 hs5 hlo5 hhi5
    subst hX7 hu6 hs6 hlo6 hhi6
    subst hX8 hu7 hs7 hlo7 hhi7
    subst hX0 hw
    rfl
  rw [← key]
  iexact H6

end Cert.KernelIdeal.Seg
-- ==== Proof.Setup.lean ====
/- The launch of the idealized kernel: what its buffers hold when the grid starts, what each grid point leaves, and what the whole run ends with. -/
module

public import proofs.«01_k».proof.Proof.Body
public import Idealize.ShloMosaic.Lib.Pipeline.FrameBody
public import Idealize.ShloMosaic.Lib.Pipeline.FrameSuffix
public import Idealize.ShloMosaic.Lib.Pipeline.Value
public import Idealize.ShloMosaic.Lib.Pipeline.ValueKit.Geometry
public import Idealize.ShloMosaic.Lib.WordCmp

@[expose] public section

set_option maxRecDepth 16384

noncomputable section

namespace Cert.KernelIdeal.Seg

open Cert.KernelIdeal Cert.KernelIdeal.Gen Cert.Steps
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host program around the grid -/

/-- The buffers of core `c` when the grid starts: the launch memory after the host operations that come before. -/
abbrev W0 (c : Dev nD) : Valuation τ sig (Elt F) := StableHlo.after (List.flatten [hostOps0]) (fun b => m (c, b))
abbrev V (c : Dev nD) (b : Ref sig .tc) : Buf (Elt F) ((c : Thread nD τ).loc b) := W0 m c (Proc.devRef .tc b)

theorem host_main (𝒱 : Variants) : Pipeline.HMainPK (Ix := Unit) (Name := ℕ) (U := UR sig nD τ) (Lvl := ℕ) pcfgs 0 defs₀ 𝒱 m (main (F := F)) (V m)
      (fun _ => Pipeline.chain ([hostOps1].map StableHlo.seq)) :=
  Pipeline.hmainP_around pcfgs 0 defs₀ 𝒱 m main [hostOps0] [hostOps1] (by simp only [List.Forall]; exact hostOps0_sub)
    (by simp only [List.Forall]; repeat' constructor) main_chain

theorem tail_sub : ∀ ops ∈ ([hostOps1] : List (List (HloOp τ sig (Elt F)))), ∀ op ∈ ops, op.bufs ⊆ Pipeline.tailRefs sig pre0 spec0 := by
  intro ops hops op hop
  obtain rfl := List.mem_singleton.mp hops
  refine Pipeline.sub_tailRefs pre0 spec0 op ((List.forall_iff_forall_mem.mp hostOps1_sub) op hop) ?_
  obtain rfl := List.mem_singleton.mp hop
  intro j
  fin_cases j
  simp only [StableHlo.nullary_bufs, Finset.mem_singleton]
  exact StableHlo.devRef_ne_of_ne (by decide)

theorem tail_fresh : ∀ ops ∈ ([hostOps1] : List (List (HloOp τ sig (Elt F)))), ∀ op ∈ ops, op.fresh = ∅ := by
  intro ops hops op hop
  obtain rfl := List.mem_singleton.mp hops
  obtain rfl := List.mem_singleton.mp hop
  rfl

theorem tail_keeps : ∀ ops ∈ ([hostOps1] : List (List (HloOp τ sig (Elt F)))), ∀ op ∈ ops, ∀ w, Proc.devRef .tc (Pipeline.arrRef spec0 w) ∉ op.writes := by
  intro ops hops op hop
  obtain rfl := List.mem_singleton.mp hops
  obtain rfl := List.mem_singleton.mp hop
  intro w
  fin_cases w <;> simp only [StableHlo.nullary_writes, Finset.mem_singleton] <;> exact StableHlo.devRef_ne_of_ne (by decide)

/-- A buffer that none of the host operations before the grid writes. -/
abbrev Untouched (b : Ref sig .tc) : Prop := (hostOps0 (F := F)).Forall fun op => Proc.devRef .tc b ∉ op.writes

theorem V_untouched {b : Ref sig .tc} (h : Untouched (F := F) b) (c : Dev nD) : V m c b = m ((c : Thread nD τ).loc b) := by
  refine StableHlo.after_of_forall_not_mem (b := Proc.devRef .tc b) _ _ ?_
  rw [List.flatten_singleton]
  exact List.forall_iff_forall_mem.mp h

theorem untouched_arg0 : Untouched (F := F) main_arg0 := by
  simp only [Untouched, List.Forall, StableHlo.unary_writes, StableHlo.binary_writes, StableHlo.reshape_writes, StableHlo.nullary_writes, Finset.mem_singleton]
  repeat' apply And.intro
  all_goals exact StableHlo.devRef_ne_of_ne (by decide)
theorem untouched_arg1 : Untouched (F := F) main_arg1 := by
  simp only [Untouched, List.Forall, StableHlo.unary_writes, StableHlo.binary_writes, StableHlo.reshape_writes, StableHlo.nullary_writes, Finset.mem_singleton]
  repeat' apply And.intro
  all_goals exact StableHlo.devRef_ne_of_ne (by decide)
theorem untouched_arg2 : Untouched (F := F) main_arg2 := by
  simp only [Untouched, List.Forall, StableHlo.unary_writes, StableHlo.binary_writes, StableHlo.reshape_writes, StableHlo.nullary_writes, Finset.mem_singleton]
  repeat' apply And.intro
  all_goals exact StableHlo.devRef_ne_of_ne (by decide)
theorem untouched_arg3 : Untouched (F := F) main_arg3 := by
  simp only [Untouched, List.Forall, StableHlo.unary_writes, StableHlo.binary_writes, StableHlo.reshape_writes, StableHlo.nullary_writes, Finset.mem_singleton]
  repeat' apply And.intro
  all_goals exact StableHlo.devRef_ne_of_ne (by decide)

/-! ## The table -/

/-- What the table of the sub-blocks' first and last segments holds when the grid starts. -/
def tbl : pre0.Contents (Elt F) := fun j => V m (0 : Dev nD) (pre0.ref j)
theorem V_tbl (c : Dev nD) (j : Fin 1) : V m c (pre0.ref j) = tbl m j := by
  obtain rfl : c = 0 := Subsingleton.elim _ _; rfl

theorem ok_any (T : pre0.Contents (Elt F)) : ok0 T := by unfold ok0; exact True.intro

abbrev adm : (pcfg0 (F := F)).Adm := ⟨tbl m, ok_any (F := F) (tbl m)⟩
abbrev cfgM : Pipeline.Cfg sig Λ₀ := cfg0 (adm m)

abbrev words : Vec F S128 .i32 := tbl m 0

theorem halves_eq (c : Dev nD) : (Pipeline.ΦT pre0 (tbl m) c : sProp 𝕄) = owns (c : Thread nD τ) (Memref.whole main_v5) fullShare.right (words m) := by
  unfold Pipeline.ΦT Pipeline.prefHeld
  rw [show (Finset.univ : Finset (Fin 1)) = {(0 : Fin 1)} from by decide, bigSep_singleton, owns_whole]
  rfl

/-! ## What the windows hold -/

/-- Window `w`'s block at a grid point, in the array as the grid finds it. -/
def block (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- An input's buffer holds its block at every point, for any proof data that starts from these arrays and leaves the block in place. -/
theorem holds0 {c : Dev nD} (dat : Dat τ (Elt F) Unit ℕ (UR sig nD τ) ℕ (cfgM m) c) (hA : dat.A 0 = V m c (Pipeline.arrRef spec0 0))
    (h : ∀ t, dat.after 0 t = block m c 0 t) (t : Fin (cfgM m).N) (d) : dat.before 0 t d = block m c 0 t :=
  (dat.before_in_eq_fetched 0 rfl (fun _ => rfl) (fun _ _ _ => rfl) (fun t => by rw [h]; unfold Dat.blockOf block; rw [hA]; try rfl) t d).trans
    (by unfold Dat.fetched Dat.blockOf block; rw [hA]; try rfl)
theorem holds1 {c : Dev nD} (dat : Dat τ (Elt F) Unit ℕ (UR sig nD τ) ℕ (cfgM m) c) (hA : dat.A 1 = V m c (Pipeline.arrRef spec0 1))
    (h : ∀ t, dat.after 1 t = block m c 1 t) (t : Fin (cfgM m).N) (d) : dat.before 1 t d = block m c 1 t :=
  (dat.before_in_eq_fetched 1 rfl (fun _ => rfl) (fun _ _ _ => rfl) (fun t => by rw [h]; unfold Dat.blockOf block; rw [hA]; try rfl) t d).trans
    (by unfold Dat.fetched Dat.blockOf block; rw [hA]; try rfl)
theorem holds2 {c : Dev nD} (dat : Dat τ (Elt F) Unit ℕ (UR sig nD τ) ℕ (cfgM m) c) (hA : dat.A 2 = V m c (Pipeline.arrRef spec0 2))
    (h : ∀ t, dat.after 2 t = block m c 2 t) (t : Fin (cfgM m).N) (d) : dat.before 2 t d = block m c 2 t :=
  (dat.before_in_eq_fetched 2 rfl (fun _ => rfl) (fun _ _ _ => rfl) (fun t => by rw [h]; unfold Dat.blockOf block; rw [hA]; try rfl) t d).trans
    (by unfold Dat.fetched Dat.blockOf block; rw [hA]; try rfl)
theorem holds3 {c : Dev nD} (dat : Dat τ (Elt F) Unit ℕ (UR sig nD τ) ℕ (cfgM m) c) (hA : dat.A 3 = V m c (Pipeline.arrRef spec0 3))
    (h : ∀ t, dat.after 3 t = block m c 3 t) (t : Fin (cfgM m).N) (d) : dat.before 3 t d = block m c 3 t :=
  (dat.before_in_eq_fetched 3 rfl (fun _ => rfl) (fun _ _ _ => rfl) (fun t => by rw [h]; unfold Dat.blockOf block; rw [hA]; try rfl) t d).trans
    (by unfold Dat.fetched Dat.blockOf block; rw [hA]; try rfl)

/-- The output is written back at the last point only. -/
theorem flush_out (t : Fin (cfgM m).N) : ((cfgM m).win 4).flush t = true ↔ t.val % 8 = 7 :=
  (fun t => Pipeline.Window.flushOf_const cc0_transform_4 (fun _ _ => rfl) (n := 8) (by decide) rfl t :
    ∀ t : Fin grid0.N, Pipeline.Window.flushOf grid0 true cc0_transform_4 t = true ↔ t.val % 8 = 7) t

theorem coord_val (t : Fin grid0.N) : (grid0.coords t 0).val = t.val := by
  have ht : t.val < 8 := Nat.lt_of_lt_of_eq t.isLt N_0
  rw [(Pipeline.Grid.coords_val t 0 (by decide) rfl : (grid0.coords t 0).val = t.val / 1 % 8)]
  omega

theorem isPoint_first (t : Fin grid0.N) : isPoint (grid0.coords t) 0#32 ↔ t.val = 0 := by
  have ht : t.val < 8 := Nat.lt_of_lt_of_eq t.isLt N_0
  simp only [isPoint, coord_val]
  word_cmp

theorem isPoint_last (t : Fin grid0.N) : isPoint (grid0.coords t) 7#32 ↔ t.val = 7 := by
  have ht : t.val < 8 := Nat.lt_of_lt_of_eq t.isLt N_0
  simp only [isPoint, coord_val]
  word_cmp

variable (hT : ∀ y, BitVec.toNat (w := 32) (words m y) < 16)

/-- What point `n` makes of an output that holds `X`. -/
def step (c : Dev nD) (n : Nat) (X : Vec F S16x512 .f32) : Vec F S16x512 .f32 :=
  if h : n < (cfgM m).N then
    after (grid0.coords ⟨n, h⟩) (words m) hT (block m c 0 ⟨n, h⟩) (block m c 1 ⟨n, h⟩) (block m c 2 ⟨n, h⟩) (block m c 3 ⟨n, h⟩) X
  else X

/-- What the output's buffer holds after point `n`. -/
def outs (c : Dev nD) : Nat → Vec F S16x512 .f32
  | 0 => step m hT c 0 (k0_pay6 (F := F))
  | n + 1 => step m hT c (n + 1) (outs c n)

def dats (_ : Fin 1) (c : Dev nD) : Dat τ (Elt F) Unit ℕ (UR sig nD τ) ℕ (cfgM m) c where
  A w := V m c (Pipeline.arrRef spec0 w)
  after w t := match w with
    | ⟨0, _⟩ => block m c 0 t
    | ⟨1, _⟩ => block m c 1 t
    | ⟨2, _⟩ => block m c 2 t
    | ⟨3, _⟩ => block m c 3 t
    | ⟨4, _⟩ => outs m hT c t.val
  Φ _ := iprop(Pipeline.ΦA spec0 c ∗ Pipeline.ΦT pre0 (tbl m) c)
  q _ := fullShare
  owed _ := 0

theorem dats_A (c : Dev nD) (w : Fin (cfgM m).W) : (dats m hT 0 c).A w = V m c (Pipeline.arrRef spec0 w) := by dsimp only [dats]
theorem after0 (c : Dev nD) (t : Fin (cfgM m).N) : (dats m hT 0 c).after 0 t = block m c 0 t := by dsimp only [dats]; try rfl
theorem after1 (c : Dev nD) (t : Fin (cfgM m).N) : (dats m hT 0 c).after 1 t = block m c 1 t := by dsimp only [dats]; try rfl
theorem after2 (c : Dev nD) (t : Fin (cfgM m).N) : (dats m hT 0 c).after 2 t = block m c 2 t := by dsimp only [dats]; try rfl
theorem after3 (c : Dev nD) (t : Fin (cfgM m).N) : (dats m hT 0 c).after 3 t = block m c 3 t := by dsimp only [dats]; try rfl
theorem after4 (c : Dev nD) (t : Fin (cfgM m).N) : (dats m hT 0 c).after 4 t = outs m hT c t.val := by dsimp only [dats]; try rfl

theorem whole_emb (y : S16x512.Idx) : whole.emb y = y := by
  funext a
  refine Fin.ext ?_
  match a with
  | 0 => show 0 + 1 * (y 0).val = (y 0).val; omega
  | 1 => show 0 + 1 * (y 1).val = (y 1).val; omega

theorem whole_overlay (X : Vec F S16x512 .f32) (Y : Vec F S16x512 .f32) : whole.overlay X Y = Y := by
  funext y
  have h := Rect.overlay_emb whole X Y y
  rwa [whole_emb] at h

theorem started_any {i : grid0.Coords} (h : isPoint i 0#32) (X Y : Vec F S16x512 .f32) : started i X = started i Y := by
  unfold started
  rw [if_pos h, if_pos h, whole_overlay, whole_overlay]

theorem after_any {i : grid0.Coords} (h : isPoint i 0#32) (T : Vec F S128 .i32) (hT : ∀ y, BitVec.toNat (w := 32) (T y) < 16) (x0 : Vec F S2048x1 .i32)
    (x1 : Vec F S2048x256 .f32) (x2 : Vec F S256x512 .bf16) (x3 : Vec F S1x512 .f32) (X Y : Vec F S16x512 .f32) :
    after i T hT x0 x1 x2 x3 X = after i T hT x0 x1 x2 x3 Y := by
  unfold after
  rw [started_any h X Y]

theorem started_later {i : grid0.Coords} (h : ¬ isPoint i 0#32) (X : Vec F S16x512 .f32) : started i X = X := by
  unfold started
  rw [if_neg h]

theorem step_eq (c : Dev nD) (t : Fin (cfgM m).N) (X : Vec F S16x512 .f32) : step m hT c t.val X =
    after (grid0.coords t) (words m) hT (block m c 0 t) (block m c 1 t) (block m c 2 t) (block m c 3 t) X := by
  unfold step
  rw [dif_pos t.isLt]

/-- One point's work takes the output's buffer from what the point before left in it to what this one does. -/
theorem after_before (c : Dev nD) (t : Fin (cfgM m).N) (d) :
    after (grid0.coords t) (words m) hT (block m c 0 t) (block m c 1 t) (block m c 2 t) (block m c 3 t) ((dats m hT 0 c).before 4 t d) = outs m hT c t.val := by
  rcases Nat.eq_zero_or_pos t.val with h0 | h0
  · have h : outs m hT c t.val = step m hT c t.val (k0_pay6 (F := F)) := by rw [h0]; rfl
    rw [h, step_eq]
    exact after_any ((isPoint_first t).mpr h0) _ _ _ _ _ _ _ _
  · rw [(dats m hT 0 c).before_out_kept 4 rfl t (by omega) (by
      rw [Bool.eq_false_iff]
      intro h
      have := (flush_out m _).mp h
      have ht : t.val < 8 := Nat.lt_of_lt_of_eq t.isLt N_0
      dsimp only at this
      omega) (fun _ => rfl) (fun _ _ => rfl), after4, ← step_eq]
    obtain ⟨n, hn⟩ : ∃ n, t.val = n + 1 := ⟨t.val - 1, by omega⟩
    dsimp only
    rw [hn, Nat.add_sub_cancel]
    rfl

/-! ## The body at every point, and the run -/

abbrev st0 (t : Fin (cfgM m).N) : Memref sig .tc .vmem S2048x1 .i32 := spec0_0.stage ((cfgM m).slots t 0)
abbrev st1 (t : Fin (cfgM m).N) : Memref sig .tc .vmem S2048x256 .f32 := spec0_1.stage ((cfgM m).slots t 1)
abbrev st2 (t : Fin (cfgM m).N) : Memref sig .tc .vmem S256x512 .bf16 := spec0_2.stage ((cfgM m).slots t 2)
abbrev st3 (t : Fin (cfgM m).N) : Memref sig .tc .vmem S1x512 .f32 := spec0_3.stage ((cfgM m).slots t 3)
abbrev st4 (t : Fin (cfgM m).N) : Memref sig .tc .vmem S16x512 .f32 := spec0_4.stage ((cfgM m).slots t 4)

abbrev bodyAt (t : Fin (cfgM m).N) : Prog (TpuEff nD τ sig (Elt F) Λ₀ .tc) PUnit :=
  cc0__body (grid0.coords t) (Memref.whole main_v5) (Memref.isWhole_whole _) (st0 m t) (hstage0_0 (((cfgM m).slots t 0).cast nbuf0_0))
    (st1 m t) (hstage0_1 (((cfgM m).slots t 1).cast nbuf0_1)) (st2 m t) (hstage0_2 (((cfgM m).slots t 2).cast nbuf0_2))
    (st3 m t) (hstage0_3 (((cfgM m).slots t 3).cast nbuf0_3)) (st4 m t) (hstage0_4 (((cfgM m).slots t 4).cast nbuf0_4))

def bodyPre (c : Dev nD) (t : Fin (cfgM m).N) : sProp 𝕄 :=
  iprop((dats m hT 0 c).Φ t.castSucc ∗ (dats m hT 0 c).owesAt () t.castSucc
    ∗ (∃ d, owns (c : Thread nD τ) (st0 m t) fullShare ((dats m hT 0 c).before 0 t d))
    ∗ (∃ d, owns (c : Thread nD τ) (st1 m t) fullShare ((dats m hT 0 c).before 1 t d))
    ∗ (∃ d, owns (c : Thread nD τ) (st2 m t) fullShare ((dats m hT 0 c).before 2 t d))
    ∗ (∃ d, owns (c : Thread nD τ) (st3 m t) fullShare ((dats m hT 0 c).before 3 t d))
    ∗ (∃ d, owns (c : Thread nD τ) (st4 m t) fullShare ((dats m hT 0 c).before 4 t d)))

def bodyPost (c : Dev nD) (t : Fin (cfgM m).N) : sProp 𝕄 :=
  iprop((dats m hT 0 c).Φ t.succ ∗ (dats m hT 0 c).owesAt () t.succ
    ∗ owns (c : Thread nD τ) (st0 m t) fullShare ((dats m hT 0 c).after 0 t)
    ∗ owns (c : Thread nD τ) (st1 m t) fullShare ((dats m hT 0 c).after 1 t)
    ∗ owns (c : Thread nD τ) (st2 m t) fullShare ((dats m hT 0 c).after 2 t)
    ∗ owns (c : Thread nD τ) (st3 m t) fullShare ((dats m hT 0 c).after 3 t)
    ∗ owns (c : Thread nD τ) (st4 m t) fullShare ((dats m hT 0 c).after 4 t))

set_option maxHeartbeats 1200000 in
theorem body_sound (c : Dev nD) (t : Fin (cfgM m).N) :
    bodyPre m hT c t ⊢ wp frame (wpE (defs₀ (F := F)) Variants.none c none) Set.univ (bodyAt m t) (fun _ => bodyPost m hT c t) := by
  unfold bodyPre bodyPost bodyAt
  simp only [holds0 m (dats m hT 0 c) (dats_A m hT c 0) (after0 m hT c), holds1 m (dats m hT 0 c) (dats_A m hT c 1) (after1 m hT c),
    holds2 m (dats m hT 0 c) (dats_A m hT c 2) (after2 m hT c), holds3 m (dats m hT 0 c) (dats_A m hT c 3) (after3 m hT c)]
  rw [show (dats m hT 0 c).Φ t.succ = (dats m hT 0 c).Φ t.castSucc from rfl,
    show (dats m hT 0 c).owesAt () t.succ = (dats m hT 0 c).owesAt () t.castSucc from rfl,
    after0, after1, after2, after3, after4,
    show (dats m hT 0 c).Φ t.castSucc = iprop(Pipeline.ΦA spec0 c ∗ Pipeline.ΦT pre0 (tbl m) c) from rfl, halves_eq]
  iintro ⟨⟨HΦ, HT⟩, Ho, ⟨%d0, H0⟩, ⟨%d1, H1⟩, ⟨%d2, H2⟩, ⟨%d3, H3⟩, ⟨%d4, H4⟩⟩
  rw [← after_before m hT c t d4]
  iapply (body_run c (grid0.coords t) (Memref.whole main_v5) _ _ _ _ _ _ _ _ _ _ _ fullShare.right (words m) hT
    (block m c 0 t) (block m c 1 t) (block m c 2 t) (block m c 3 t) ((dats m hT 0 c).before 4 t d4) Set.univ _)
  isplitl [HT]; · iexact HT
  isplitl [H0]; · iexact H0
  isplitl [H1]; · iexact H1
  isplitl [H2]; · iexact H2
  isplitl [H3]; · iexact H3
  isplitl [H4]; · iexact H4
  iintro ⟨HT, H0, H1, H2, H3, H4⟩
  isplitl [HΦ HT]
  · isplitl [HΦ]
    · iexact HΦ
    iexact HT
  isplitl [Ho]; · iexact Ho
  isplitl [H0]; · iexact H0
  isplitl [H1]; · iexact H1
  isplitl [H2]; · iexact H2
  isplitl [H3]; · iexact H3
  iexact H4

theorem body_row (t : Fin (cfgM m).N) :
    defs₀ (F := F) .tc (cfgM m).body ((cfgM m).bodyArgs t ((cfgM m).slots t)) = bodyAt m t := by
  unfold defs₀; rw [Defs.onTc_tc]

theorem body_ok (c : Dev nD) : BodyObligation (dats (F := F) m hT 0 c) (defs₀ (F := F)) Variants.none () Set.univ := fun t => by
  rw [bigSep_W0, bigSep_W0, body_row m]
  exact triple_restated (body_sound m hT c t) rfl .rfl fun _ => .rfl

set_option backward.isDefEq.respectTransparency.types false in
set_option maxHeartbeats 800000 in
/-- The run: every array ends at what its windows were written back with, every other buffer at what the host operations left, every counter at zero. -/
theorem run_main : θ_run defs (onTc (τ := τ) (main (F := F))) (s₀ m ρ) (fun r =>
    Pipeline.FramePost (Pipeline.pin pcfgs fun _ => adm m) (dats m hT) 0 (Pipeline.afterTail pcfgs (fun _ => adm m) (dats m hT) 0 (W0 m) [hostOps1]) r ∧ r.2.sem = fun _ => 0) :=
  Pipeline.θ_run_frameP_around (Q' := _) pcfgs (fun _ => adm m) (dats m hT) (0 : Fin 1) launch0 defs₀ Variants.none m ρ main
    (hbody := fun c => (body_ok m hT c).loose) (hshare := fun c => (dats m hT 0 c).share_full fun _ => rfl)
    (howed := fun _ _ => rfl) (V₀ := W0 m) (opss := [hostOps1]) (hsub := tail_sub) (hfresh := tail_fresh) (hkeep := tail_keeps)
    (hmain := host_main m Variants.none) (hA := dats_A m hT) (hpf := V_tbl m) (hΦ := fun _ _ => rfl)

/-- A buffer that the operation after the grid does not write and that no window stages ends as the grid found it. -/
theorem tail_untouched (c : Dev nD) {b : Ref sig .tc} (h : b ≠ main_v10) (hw : ∀ w, Pipeline.arrRef spec0 w ≠ b) :
    Pipeline.afterTail pcfgs (fun _ => adm m) (dats m hT) 0 (W0 m) [hostOps1] c b = V m c b := by
  unfold Pipeline.afterTail
  rw [StableHlo.after_of_forall_not_mem (b := Proc.devRef .tc b) _ _ (by
    intro op hop
    obtain rfl := List.mem_singleton.mp hop
    rw [StableHlo.nullary_writes, Finset.mem_singleton]
    exact StableHlo.devRef_ne_of_ne h),
    Pipeline.withArrays_of_ne _ c (W0 m c) _ b hw]

/-- The last point. -/
def last : Fin (cfgM m).N := ⟨7, by show 7 < grid0.N; rw [N_0]; omega⟩

theorem last_whole : ((cfgM m).win 4).WholeAt (last m) := by
  refine ⟨(flush_out m _).mpr rfl, fun t ht => Fin.ext ?_, fun a => ?_⟩
  · have := (flush_out m t).mp ht
    have ht : t.val < 8 := Nat.lt_of_lt_of_eq t.isLt N_0
    show t.val = 7
    omega
  · exact (fun | 0 => ⟨rfl, rfl⟩ | 1 => ⟨rfl, rfl⟩ :
      ∀ a : Fin 2, ((cfgM m).win 4).index (last m) a = 0 ∧ ((cfgM m).win 4).xsize (grid0.coords (last m)) a = S16x512.size a) a

/-- The output's array ends at what its buffer holds after the last point. -/
theorem out_final (c : Dev nD) : (dats m hT 0 c).arrAt 4 (cfgM m).N = outs m hT c 7 :=
  (dats m hT 0 c).arrAt_eq_of_after_last 4 (last m) (last_whole m) (outs m hT c 7) (fun j => by
    rw [after4]
    rfl)

/-- The arguments end unchanged. -/
theorem args_kept (h : ∀ y, BitVec.toNat (w := 32) (words m y) < 16) {r}
    (hr : Pipeline.FramePost (Pipeline.pin pcfgs fun _ => adm m) (dats m h) 0 (Pipeline.afterTail pcfgs (fun _ => adm m) (dats m h) 0 (W0 m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((hr c).1 1).trans (((dats m h 0 c).arrAt_in 1 rfl _).trans (V_untouched m untouched_arg0 c)),
    ((hr c).2 main_arg1 (by exact (by decide : main_arg1 ∈ Pipeline.restRefs sig spec0))).trans ((tail_untouched m h c (by decide) (by decide)).trans (V_untouched m untouched_arg1 c)),
    ((hr c).2 main_arg2 (by exact (by decide : main_arg2 ∈ Pipeline.restRefs sig spec0))).trans ((tail_untouched m h c (by decide) (by decide)).trans (V_untouched m untouched_arg2 c)),
    ((hr c).2 main_arg3 (by exact (by decide : main_arg3 ∈ Pipeline.restRefs sig spec0))).trans ((tail_untouched m h c (by decide) (by decide)).trans (V_untouched m untouched_arg3 c))⟩

/-- The arguments end unchanged and every counter at zero. -/
theorem frame_of (h : ∀ y, BitVec.toNat (w := 32) (words m y) < 16) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ hr => ⟨args_kept m h hr.1, hr.2⟩) (run_main m ρ h)

end Cert.KernelIdeal.Seg

end
-- ==== Proof.Host.lean ====
/- What the host operations before the grid make of the arguments, element by element. -/
module

public import proofs.«01_k».proof.Proof.Setup
public import Idealize.ShloMosaic.Lib.Pointwise
public import Idealize.ShloMosaic.Lib.StableHlo.Run

@[expose] public section

set_option maxRecDepth 16384

noncomputable section

namespace Cert.KernelIdeal.Seg

open Cert.KernelIdeal Cert.KernelIdeal.Gen Cert.Steps
open Idealize.ShloMosaic Idealize.ShloMosaic.TcCoe Idealize.ShloMosaic.Tactic

variable {F : FTy → Type} [FloatOps F]
variable (m : (ℓ : Loc nD τ sig) → Buf (Elt F) ℓ)

theorem word_lt (y : S128.Idx) : 256 * ((y 0).val / 2) + 255 * ((y 0).val % 2) < 16384 := by
  have h : (y 0).val < 128 := (y 0).isLt
  omega

theorem words_eq (y : S128.Idx) : words m y = m (((0 : Dev nD) : Thread nD τ).loc main_arg3) (ix1 ⟨256 * ((y 0).val / 2) + 255 * ((y 0).val % 2), word_lt y⟩) := by
  show V m 0 main_v5 y = _
  unfold V W0
  rw [List.flatten_singleton]
  unfold hostOps0
  after_results
  pointwise
  split
  · refine congrArg (m _) (congrArg ix1 (Fin.ext ?_))
    dsimp only
    omega
  · refine congrArg (m _) (congrArg ix1 (Fin.ext ?_))
    dsimp only
    omega

theorem V_segs (c : Dev nD) (y : S16384x1.Idx) : V m c main_v6 y = m ((c : Thread nD τ).loc main_arg3) (ix1 (n0 := 16384) (y 0)) := by
  unfold V W0
  rw [List.flatten_singleton]
  unfold hostOps0
  after_results
  pointwise

theorem V_weights (c : Dev nD) : V m c main_v7 = truncf .bf16 (m ((c : Thread nD τ).loc main_arg1) : FVec F S256x512 .f32) bitsLt_bf16_f32 := by
  unfold V W0
  rw [List.flatten_singleton]
  unfold hostOps0
  after_results

theorem V_bias (c : Dev nD) (y : S1x512.Idx) : V m c main_v8 y = m ((c : Thread nD τ).loc main_arg2) (ix1 (n0 := 512) (y 1)) := by
  unfold V W0
  rw [List.flatten_singleton]
  unfold hostOps0
  after_results
  pointwise

theorem words_small (h : ∀ y, (show BitVec 32 from m (((0 : Dev nD) : Thread nD τ).loc main_arg3) y).toNat < 16) (y : S128.Idx) :
    BitVec.toNat (w := 32) (words m y) < 16 := by
  rw [words_eq]
  exact h _

end Cert.KernelIdeal.Seg

end
-- ==== Proof.Same.lean ====
/- The kernel as printed and the idealized kernel are one program, so what is proved of the one holds of the other. -/
module

public import proofs.«01_k».proof.Defs
public import proofs.«01_k».proof.Proof.Host
public import proofs.«01_k».proof.Proof.Given
public import proofs.«01_k».proof.Proof.Gen.Kernel.Launch

@[expose] public section

set_option maxRecDepth 16384

noncomputable section

namespace Cert.Same

open Idealize.ShloMosaic Idealize.ShloMosaic.TcCoe Idealize.SL.Sem

variable {F : FTy → Type} [FloatOps F]

set_option maxHeartbeats 2000000 in
theorem body_eq : @Kernel.cc0__body F _ _ = @KernelIdeal.cc0__body F _ _ := rfl

theorem bodies_eq : @Kernel.defs₀ F _ _ = @KernelIdeal.defs₀ F _ _ := by
  unfold Kernel.defs₀ KernelIdeal.defs₀
  refine congrArg Defs.onTc (funext fun l => funext fun a => ?_)
  match l, a with
  | 0, (t, s) =>
    show Kernel.cc0__body _ _ _ _ _ _ _ _ _ _ _ _ _ = KernelIdeal.cc0__body _ _ _ _ _ _ _ _ _ _ _ _ _
    rw [body_eq]
    rfl

theorem defs_eq : @Kernel.defs F _ _ = @KernelIdeal.defs F _ _ := by
  unfold Kernel.defs KernelIdeal.defs
  rw [bodies_eq]
  rfl

set_option maxHeartbeats 2000000 in
theorem main_eq : @Kernel.main F _ _ = @KernelIdeal.main F _ _ := rfl

/-- The kernel at its machine numbers: the arguments end unchanged and every counter at zero. -/
theorem frame_kernel : quiescent_Kernel := by
  intro m g h
  have e := Cert.KernelIdeal.Seg.frame_of (F := Bits) m g (Cert.KernelIdeal.Seg.words_small m (Cert.Given.small_of_range (h 0)))
  rw [← defs_eq, ← main_eq] at e
  exact e

theorem frame_ideal : quiescent_KernelIdeal := fun m g h =>
  Cert.KernelIdeal.Seg.frame_of (F := Ideal) m g (Cert.KernelIdeal.Seg.words_small m (Cert.Given.small_of_range (h 0)))

end Cert.Same

end
-- ==== Proof.Spec.lean ====
/- The quantity both programs compute: per segment and column, the greatest of the members' products, with the bias added and what is negative set to zero. -/
module

public import proofs.«01_k».proof.Proof.Sorted

@[expose] public section

noncomputable section

namespace Cert.Spec

open Idealize.ShloMosaic Cert.Given

theorem select_eq {w : Nat} (a b : BitVec w) (u v : EReal) : Scalar.select (IntOp.cmpi .eq a b) u v = if a = b then u else v := by
  unfold Scalar.select
  by_cases h : a = b
  · subst h
    rw [if_pos rfl]
    simp [IntOp.cmpi]
  · have hb : (a == b) = false := by simpa using h
    rw [if_neg h]
    simp [IntOp.cmpi, hb]

theorem minus_inf : Ideal.ofBits .f32 0xFF800000#32 = (⊥ : EReal) := by simp [Ideal.ofBits, Ideal.ieee]
theorem zero_bits : Ideal.ofBits .f32 0x00000000#32 = (0 : EReal) := by simp [Ideal.ofBits, Ideal.ieee]

variable (x : FVec Ideal Rows .f32) (w : FVec Ideal Weights .f32) (b : FVec Ideal Bias .f32) (ids : IVec Ids 32)

/-- Row `R` of the product, at column `d`. -/
def prod (R : Fin 16384) (d : Fin 512) : EReal := ∑ k : Fin 256, (x (ix2 R k) : EReal) * (w (ix2 k d) : EReal)

/-- What row `R` puts up for segment `n`: its product if it is a member, else minus infinity. -/
def term (n : Fin 16) (d : Fin 512) (R : Nat) : EReal :=
  if h : R < 16384 then if ids (ix1 ⟨R, h⟩) = BitVec.ofNat 32 n.val then prod x w ⟨R, h⟩ d else ⊥ else ⊥

theorem term_of_lt (n : Fin 16) (d : Fin 512) {R : Nat} (h : R < 16384) : term x w ids n d R = if ids (ix1 ⟨R, h⟩) = BitVec.ofNat 32 n.val then prod x w ⟨R, h⟩ d else ⊥ := by
  unfold term
  rw [dif_pos h]

/-- The greatest of what the first `N` rows put up. -/
def upTo (n : Fin 16) (d : Fin 512) (N : Nat) : EReal := (Finset.range N).sup (term x w ids n d)

theorem upTo_zero (n : Fin 16) (d : Fin 512) : upTo x w ids n d 0 = ⊥ := rfl

/-- The next `K` rows taken in. -/
theorem upTo_add (n : Fin 16) (d : Fin 512) (N K : Nat) :
    upTo x w ids n d (N + K) = max (upTo x w ids n d N) (Finset.univ.sup fun r : Fin K => term x w ids n d (N + r.val)) := by
  refine le_antisymm (Finset.sup_le fun R hR => ?_) (max_le (Finset.sup_mono (Finset.range_mono (Nat.le_add_right N K))) (Finset.sup_le fun r _ => ?_))
  · have hR := Finset.mem_range.mp hR
    by_cases h : R < N
    · exact le_max_of_le_left (Finset.le_sup (f := term x w ids n d) (Finset.mem_range.mpr h))
    · refine le_max_of_le_right ?_
      have := Finset.le_sup (f := fun r : Fin K => term x w ids n d (N + r.val)) (Finset.mem_univ ⟨R - N, by omega⟩)
      dsimp only at this
      rwa [Nat.add_sub_cancel' (by omega)] at this
  · exact Finset.le_sup (f := term x w ids n d) (Finset.mem_range.mpr (by omega))

/-- A product's row with the bias added and what is negative set to zero. -/
def act (d : Fin 512) (p : EReal) : EReal := max (p + b (ix1 d)) 0

variable {b}

/-- Adding the bias after the comparison with its opposite is comparing with zero after adding it. -/
theorem max_neg_add {β : EReal} (h : β ≠ ⊤) (h' : β ≠ ⊥) (p : EReal) : max p (0 - β) + β = max (p + β) 0 := by
  lift β to ℝ using ⟨h, h'⟩
  have hz : (0 - (β : EReal)) + β = 0 := by
    rw [zero_sub, ← EReal.coe_neg, ← EReal.coe_add, neg_add_cancel, EReal.coe_zero]
  rcases le_total p (0 - (β : EReal)) with hp | hp
  · rw [max_eq_right hp, hz]
    refine (max_eq_right ?_).symm
    rw [← hz]
    exact add_le_add_left hp _
  · rw [max_eq_left hp]
    refine (max_eq_left ?_).symm
    rw [← hz]
    exact add_le_add_left hp _

/-- The greatest of the members' rows after the bias and the zero, an empty segment's set to zero, is that of the greatest product. -/
theorem act_sup {ι : Type} [Fintype ι] [Nonempty ι] (A : ι → Prop) [DecidablePred A] (p : ι → EReal) (d : Fin 512) :
    (if (Finset.univ.sup fun R => if A R then act b d (p R) else ⊥) = ⊥ then 0 else Finset.univ.sup fun R => if A R then act b d (p R) else ⊥)
      = act b d (Finset.univ.sup fun R => if A R then p R else ⊥) := by
  have hbot : act b d ⊥ = 0 := by
    unfold act
    rw [EReal.bot_add]
    exact max_eq_right bot_le
  have hnn (q : EReal) : 0 ≤ act b d q := le_max_right _ _
  have hmono {q q' : EReal} (h : q ≤ q') : act b d q ≤ act b d q' := max_le_max (add_le_add_left h _) le_rfl
  set G := Finset.univ.sup fun R => if A R then act b d (p R) else ⊥ with hG
  obtain ⟨R0, _, e⟩ := Finset.exists_mem_eq_sup Finset.univ Finset.univ_nonempty (fun R => if A R then p R else (⊥ : EReal))
  have hmem (R : ι) (hR : A R) : act b d (p R) ≤ G := by
    have := Finset.le_sup (f := fun R => if A R then act b d (p R) else ⊥) (Finset.mem_univ R)
    rwa [if_pos hR] at this
  have hle : G ≤ act b d (Finset.univ.sup fun R => if A R then p R else ⊥) := by
    refine Finset.sup_le fun R _ => ?_
    by_cases hR : A R
    · rw [if_pos hR]
      refine hmono ?_
      have := Finset.le_sup (f := fun R => if A R then p R else (⊥ : EReal)) (Finset.mem_univ R)
      rwa [if_pos hR] at this
    · rw [if_neg hR]
      exact bot_le
  by_cases hA : A R0
  · rw [if_pos hA] at e
    have h0 := hmem R0 hA
    rw [if_neg (fun h => by rw [h, le_bot_iff] at h0; have := hnn (p R0); rw [h0] at this; exact absurd this (by simp))]
    exact le_antisymm hle (by rw [e]; exact h0)
  · rw [if_neg hA] at e
    rw [e, hbot] at hle ⊢
    by_cases h : G = ⊥
    · rw [if_pos h]
    · rw [if_neg h]
      refine le_antisymm hle ?_
      obtain ⟨R1, _, e1⟩ := Finset.exists_mem_eq_sup Finset.univ Finset.univ_nonempty (fun R => if A R then act b d (p R) else (⊥ : EReal))
      rw [hG] at h ⊢
      rw [e1] at h ⊢
      by_cases hR : A R1
      · rw [if_pos hR]
        exact hnn _
      · exact absurd (if_neg hR) h

end Cert.Spec

end
-- ==== Proof.Rows.lean ====
/- What a sub-block's work does to the output, element by element: every row is raised to the greatest of its members. -/
module

public import proofs.«01_k».proof.Proof.Body
public import proofs.«01_k».proof.Proof.Spec
public import Idealize.ShloMosaic.Lib.Pointwise

@[expose] public section

set_option maxRecDepth 16384

noncomputable section

namespace Cert.KernelIdeal.Seg

open Cert.KernelIdeal Cert.KernelIdeal.Gen Cert.Steps Cert.Spec
open Idealize.ShloMosaic Idealize.ShloMosaic.TcCoe Idealize.ShloMosaic.Tactic

theorem ix_ext {n0 n1 : Nat} {y z : (⟨2, ![n0, n1]⟩ : Shape).Idx} (h0 : (y 0).val = (z 0).val) (h1 : (y 1).val = (z 1).val) : y = z := by
  rw [eq_ix2 y, eq_ix2 z, Fin.ext h0, Fin.ext h1]

/-- The greatest of the elements in column `d` of the rows whose segment is `s`. -/
def top (D : FVec Ideal S256x512 .f32) (S : IVec S256x1 32) (s : BitVec 32) (d : Fin 512) : EReal :=
  Finset.univ.sup fun r : Fin 256 => if S (ix2 r (0 : Fin 1)) = s then (D (ix2 r d) : EReal) else ⊥

theorem raised_at (D : FVec Ideal S256x512 .f32) (S : IVec S256x1 32) (s : BitVec 32) (v : Vec Ideal S1x512 .f32) (d : Fin 512) :
    (raised D S s v (ix2 (0 : Fin 1) d) : EReal) = max (v (ix2 (0 : Fin 1) d)) (top D S s d) := by
  unfold raised top
  pointwise
  rw [minus_inf]
  simp only [select_eq]
  rfl

/-- `Y` is `X` with the rows that `A` names raised. -/
def Raised (D : FVec Ideal S256x512 .f32) (S : IVec S256x1 32) (A : Nat → Prop) (X Y : Vec Ideal S16x512 .f32) : Prop :=
  ∀ (n : Fin 16) (d : Fin 512), (A n.val → (Y (ix2 n d) : EReal) = max (X (ix2 n d)) (top D S (BitVec.ofNat 32 n.val) d))
    ∧ (¬ A n.val → Y (ix2 n d) = X (ix2 n d))

variable {D : FVec Ideal S256x512 .f32} {S : IVec S256x1 32}

theorem Raised.none (X : Vec Ideal S16x512 .f32) : Raised D S (fun _ => False) X X := fun _ _ => ⟨False.elim, fun _ => rfl⟩

theorem Raised.trans {A B : Nat → Prop} {X Y Z : Vec Ideal S16x512 .f32} (h : Raised D S A X Y) (h' : Raised D S B Y Z) : Raised D S (fun n => A n ∨ B n) X Z := by
  intro n d
  refine ⟨fun hn => ?_, fun hn => ?_⟩
  · by_cases hB : B n.val
    · rw [(h' n d).1 hB]
      by_cases hA : A n.val
      · rw [(h n d).1 hA, max_assoc, max_self]
      · rw [(h n d).2 hA]
    · rw [(h' n d).2 hB, (h n d).1 (hn.resolve_right hB)]
  · rw [(h' n d).2 (fun hB => hn (.inr hB)), (h n d).2 (fun hA => hn (.inl hA))]

theorem Raised.congr {A B : Nat → Prop} {X Y : Vec Ideal S16x512 .f32} (h : Raised D S A X Y) (hAB : ∀ n, n < 16 → (A n ↔ B n)) : Raised D S B X Y :=
  fun n d => ⟨fun hB => (h n d).1 ((hAB n n.isLt).mpr hB), fun hB => (h n d).2 fun hA => hB ((hAB n n.isLt).mp hA)⟩

/-- One row raised. -/
theorem Raised.one (o : Fin 2 → Nat) (ho : ∀ a, o a + S1x512.size a ≤ S16x512.size a) (s : BitVec 32) (hs : o = ![s.toNat, 0]) (X : Vec Ideal S16x512 .f32) :
    Raised D S (fun n => n = s.toNat) X (alter (row o ho) (raised D S s) X) := by
  subst hs
  intro n d
  have hlt : s.toNat + 1 ≤ 16 := ho 0
  have hin (e : n.val = s.toNat) : (row ![s.toNat, 0] ho).emb (ix2 (n0 := 1) (n1 := 512) 0 d) = ix2 n d := by
    refine ix_ext ?_ ?_
    · show s.toNat + 1 * 0 = n.val; omega
    · show 0 + 1 * d.val = d.val; omega
  refine ⟨fun e => ?_, fun e => ?_⟩
  · show ((row ![s.toNat, 0] ho).overlay X _ (ix2 n d) : EReal) = _
    rw [← hin e, Rect.overlay_emb]
    refine (raised_at D S s _ d).trans ?_
    rw [e, BitVec.ofNat_toNat, BitVec.setWidth_eq]
  · refine Rect.overlay_of_not_mem _ X _ fun hm => e ?_
    rw [← Rect.map_emb_univ, Finset.mem_map] at hm
    obtain ⟨y, _, hy⟩ := hm
    have h0 := congrArg (fun i : S16x512.Idx => (i 0).val) hy
    have hy0 : (y 0).val < 1 := (y 0).isLt
    have h0 : s.toNat + 1 * (y 0).val = n.val := h0
    omega

/-- Rows raised one after another. -/
theorem Raised.list {ι : Type} (o : ι → Fin 2 → Nat) (ho : ∀ k a, o k a + S1x512.size a ≤ S16x512.size a) (s : ι → BitVec 32) (hs : ∀ k, o k = ![(s k).toNat, 0])
    (L : List ι) (X : Vec Ideal S16x512 .f32) :
    Raised D S (fun n => ∃ k ∈ L, n = (s k).toNat) X (L.foldl (fun Y k => alter (row (o k) (ho k)) (raised D S (s k)) Y) X) := by
  induction L generalizing X with
  | nil => exact (Raised.none X).congr fun n _ => by simp
  | cons k L ih => exact ((Raised.one (o k) (ho k) (s k) (hs k) X).trans (ih _)).congr fun n _ => by simp

theorem cond_iff {lo hi : BitVec 32} (h : lo.toNat < 16) (h' : hi.toNat < 16) (hle : lo.toNat ≤ hi.toNat) : k0_cond2 lo hi = 1#1 ↔ lo.toNat + 2 ≤ hi.toNat := by
  have key : ∀ a b : Fin 16, a.val ≤ b.val → (k0_cond2 (BitVec.ofNat 32 a.val) (BitVec.ofNat 32 b.val) = 1#1 ↔ a.val + 2 ≤ b.val) := by decide
  have := key ⟨lo.toNat, h⟩ ⟨hi.toNat, h'⟩ hle
  simpa using this

/-- The rows strictly between the first and the last segment. -/
theorem Raised.mid (lo hi : BitVec 32) (h : lo.toNat < 16) (h' : hi.toNat < 16) (hle : lo.toNat ≤ hi.toNat) (hk : k0_chk2 lo hi) (X : Vec Ideal S16x512 .f32) :
    Raised D S (fun n => lo.toNat < n ∧ n < hi.toNat) X (between D S lo hi hk X) := by
  unfold between
  by_cases hc : k0_cond2 lo hi = 1#1
  · rw [dif_pos hc]
    have hnil : List.finRange (k0_t2_loop lo hi).trips = [] := by
      rw [List.eq_nil_iff_forall_not_mem]
      exact fun k _ => (Scf.rem_no_trip _ _ k).elim
    rw [hnil]
    have ht := loop_trips h h'
    refine (Raised.list (fun k : Fin (k0_t1_loop lo hi).trips => k0_off5 lo hi k) (fun k => k0_off5_inb lo hi hk k hc)
      (fun k => Scf.iv (Scalar.addi lo 1#32) 1#32 k.val) (fun k => rfl) (List.finRange (k0_t1_loop lo hi).trips) X).congr fun n hn => ?_
    constructor
    · rintro ⟨k, _, e⟩
      have hk := k.isLt
      rw [loop_iv h (by omega)] at e
      omega
    · intro hh
      refine ⟨⟨n - (lo.toNat + 1), by omega⟩, List.mem_finRange _, ?_⟩
      rw [loop_iv h (by dsimp only; omega)]
      dsimp only
      omega
  · rw [dif_neg hc]
    refine (Raised.none X).congr fun n hn => ?_
    have := (cond_iff h h' hle).not.mp hc
    constructor
    · exact False.elim
    · intro hh; omega

theorem Raised.settle (lo hi : BitVec 32) (h : lo.toNat < 16) (h' : hi.toNat < 16) (hle : lo.toNat ≤ hi.toNat) (hk1 : k0_chk1 lo) (hk : k0_chk2 lo hi) (X : Vec Ideal S16x512 .f32) :
    Raised D S (fun n => lo.toNat ≤ n ∧ n ≤ hi.toNat) X (settle D S lo hi hk1 hk X) := by
  refine (((Raised.one _ _ lo rfl X).trans (Raised.one _ _ hi rfl _)).trans (Raised.mid lo hi h h' hle hk _)).congr fun n hn => ?_
  omega

/-- When every segment of the sub-block lies between its first and its last, every row is raised to the greatest of its members. -/
theorem settle_at (lo hi : BitVec 32) (h : lo.toNat < 16) (h' : hi.toNat < 16) (hk1 : k0_chk1 lo) (hk : k0_chk2 lo hi)
    (hS : ∀ r : Fin 256, lo.toNat ≤ (S (ix2 r (0 : Fin 1))).toNat ∧ (S (ix2 r (0 : Fin 1))).toNat ≤ hi.toNat) (X : Vec Ideal S16x512 .f32) (n : Fin 16) (d : Fin 512) :
    (Seg.settle D S lo hi hk1 hk X (ix2 n d) : EReal) = max (X (ix2 n d)) (top D S (BitVec.ofNat 32 n.val) d) := by
  have hR := Raised.settle (D := D) (S := S) lo hi h h' ((hS 0).1.trans (hS 0).2) hk1 hk X n d
  by_cases hn : lo.toNat ≤ n.val ∧ n.val ≤ hi.toNat
  · exact hR.1 hn
  · rw [hR.2 hn]
    have hbot : top D S (BitVec.ofNat 32 n.val) d = ⊥ := by
      refine (Finset.sup_eq_bot_iff _ _).mpr fun r _ => if_neg fun e => hn ?_
      have := hS r
      rw [e, BitVec.toNat_ofNat, Nat.mod_eq_of_lt (by omega)] at this
      exact this
    rw [hbot]
    exact (max_eq_left bot_le).symm

end Cert.KernelIdeal.Seg

end
-- ==== Proof.Grid.lean ====
/- What the idealized kernel's output holds after every grid point, element by element. -/
module

public import proofs.«01_k».proof.Proof.Rows
public import proofs.«01_k».proof.Proof.Host
public import proofs.«01_k».proof.Proof.Spec

@[expose] public section

set_option maxRecDepth 16384

noncomputable section

namespace Cert.KernelIdeal.Seg

open Cert.KernelIdeal Cert.KernelIdeal.Gen Cert.Steps Cert.Spec
open Idealize.ShloMosaic Idealize.ShloMosaic.TcCoe Idealize.ShloMosaic.Tactic

theorem rows_lt (t : Fin 8) (r : Fin 256) : 256 * t.val + r.val < 2048 := by omega

theorem prods_at (x1 : Vec Ideal S2048x256 .f32) (x2 : Vec Ideal S256x512 .bf16) (t : Fin 8) (r : Fin 256) (d : Fin 512) :
    (prods x1 x2 t (ix2 r d) : EReal) = ∑ k : Fin 256, (x1 (ix2 ⟨256 * t.val + r.val, rows_lt t r⟩ k) : EReal) * (x2 (ix2 k d) : EReal) := by
  unfold prods k0_pay8 k0_pay7
  pointwise
  refine Finset.sum_congr rfl fun k _ => congrArg₂ (fun a b : EReal => a * b) (congrArg x1 (ix_ext ?_ ?_)) (congrArg x2 (ix_ext ?_ ?_))
  · show 256 * t.val + 1 * r.val = 256 * t.val + r.val; omega
  · show 0 + 1 * k.val = k.val; omega
  · show 0 + 1 * k.val = k.val; omega
  · show 0 + 1 * d.val = d.val; omega

theorem segs_at (x0 : Vec Ideal S2048x1 .i32) (t : Fin 8) (r : Fin 256) :
    segs x0 t (ix2 r (0 : Fin 1)) = x0 (ix2 ⟨256 * t.val + r.val, rows_lt t r⟩ (0 : Fin 1)) := by
  unfold segs k0_pay9
  pointwise
  refine congrArg x0 (ix_ext ?_ ?_)
  · show 256 * t.val + 1 * r.val = 256 * t.val + r.val; omega
  · show 0 + 1 * 0 = 0; omega

variable (m : (ℓ : Loc nD τ sig) → Buf (Elt Ideal) ℓ) (c : Dev nD)

abbrev argX : FVec Ideal S16384x256 .f32 := m ((c : Thread nD τ).loc main_arg0)
abbrev argW : FVec Ideal S256x512 .f32 := m ((c : Thread nD τ).loc main_arg1)
abbrev argB : FVec Ideal S512 .f32 := m ((c : Thread nD τ).loc main_arg2)
abbrev argI : IVec S16384 32 := m ((c : Thread nD τ).loc main_arg3)

theorem pt_lt (t : Fin (cfgM m).N) : t.val < 8 := Nat.lt_of_lt_of_eq t.isLt N_0

theorem rowAt_lt (t : Fin (cfgM m).N) (r : Fin 2048) : 2048 * t.val + r.val < 16384 := by
  have := pt_lt m t
  omega

theorem index0 (t : Fin (cfgM m).N) : ((cfgM m).win 0).index t (0 : Fin 2) = t.val := by
  have ht := pt_lt m t
  show (BitVec.ofNat 32 (grid0.coords t 0).val).toNat = t.val
  rw [coord_val, BitVec.toNat_ofNat]
  omega

theorem index1 (t : Fin (cfgM m).N) : ((cfgM m).win 1).index t (0 : Fin 2) = t.val := by
  have ht := pt_lt m t
  show (BitVec.ofNat 32 (grid0.coords t 0).val).toNat = t.val
  rw [coord_val, BitVec.toNat_ofNat]
  omega

theorem block_segs (t : Fin (cfgM m).N) (r : Fin 2048) : block m c 0 t (ix2 r (0 : Fin 1)) = argI m c (ix1 ⟨2048 * t.val + r.val, rowAt_lt m t r⟩) := by
  refine (V_segs m c _).trans (congrArg (argI m c) (congrArg ix1 (Fin.ext ?_)))
  refine (Pipeline.Window.rect_emb_val ((cfgM m).win 0) t (ix2 r (0 : Fin 1)) (0 : Fin 2) rfl).trans ?_
  rw [index0]
  show t.val * 2048 + r.val = 2048 * t.val + r.val
  omega

theorem block_rows (t : Fin (cfgM m).N) (r : Fin 2048) (k : Fin 256) : block m c 1 t (ix2 r k) = argX m c (ix2 ⟨2048 * t.val + r.val, rowAt_lt m t r⟩ k) := by
  refine (congrFun (V_untouched m untouched_arg0 c) _).trans (congrArg (argX m c) (ix_ext ?_ ?_))
  · refine (Pipeline.Window.rect_emb_val ((cfgM m).win 1) t (ix2 r k) (0 : Fin 2) rfl).trans ?_
    rw [index1]
    show t.val * 2048 + r.val = 2048 * t.val + r.val
    omega
  · exact Pipeline.Window.rect_emb_val_of_index_zero ((cfgM m).win 1) t (1 : Fin 2) rfl (ix2 r k)

theorem block_weights (t : Fin (cfgM m).N) (k : Fin 256) (d : Fin 512) : (block m c 2 t (ix2 k d) : EReal) = argW m c (ix2 k d) := by
  refine (congrFun (V_weights m c) _).trans (congrArg (argW m c) (ix_ext ?_ ?_))
  · exact Pipeline.Window.rect_emb_val_of_index_zero ((cfgM m).win 2) t (0 : Fin 2) rfl (ix2 k d)
  · exact Pipeline.Window.rect_emb_val_of_index_zero ((cfgM m).win 2) t (1 : Fin 2) rfl (ix2 k d)

theorem block_bias (t : Fin (cfgM m).N) (d : Fin 512) : (block m c 3 t (ix2 (0 : Fin 1) d) : EReal) = argB m c (ix1 d) := by
  refine (V_bias m c _).trans (congrArg (argB m c) (congrArg ix1 (Fin.ext ?_)))
  exact Pipeline.Window.rect_emb_val_of_index_zero ((cfgM m).win 3) t (1 : Fin 2) rfl (ix2 (0 : Fin 1) d)

end Cert.KernelIdeal.Seg

end
-- ==== Proof.Points.lean ====
/- The output after every grid point is the greatest of what the rows so far put up, and after the last one the bias is in. -/
module

public import proofs.«01_k».proof.Proof.Grid

@[expose] public section

set_option maxRecDepth 16384

noncomputable section

namespace Cert.KernelIdeal.Seg

open Cert.KernelIdeal Cert.KernelIdeal.Gen Cert.Steps Cert.Spec
open Idealize.ShloMosaic Idealize.ShloMosaic.TcCoe Idealize.ShloMosaic.Tactic

variable (m : (ℓ : Loc nD τ sig) → Buf (Elt Ideal) ℓ) (c : Dev nD)

theorem wordAt_val (n : BitVec 32) (h : n.toNat < 128) : (wordAt n h 0).val = n.toNat := by
  show n.toNat + 1 * 0 = n.toNat
  omega

/-- The segments never fall from one row to a later one. -/
abbrev Ascending : Prop := ∀ (a b : Nat) (hb : b < 16384) (hab : a ≤ b), (argI m c (ix1 ⟨a, by omega⟩)).toNat ≤ (argI m c (ix1 ⟨b, hb⟩)).toNat

theorem subRow_lt (t : Fin (cfgM m).N) (u : Fin 8) (r : Fin 256) : 2048 * t.val + 256 * u.val + r.val < 16384 := by
  have := pt_lt m t
  omega

theorem word_first (t : Fin (cfgM m).N) (u : Fin 8) : words m (wordAt (firstNo (grid0.coords t) u) (firstNo_lt _ u)) = argI m c (ix1 ⟨2048 * t.val + 256 * u.val, subRow_lt m t u 0⟩) := by
  obtain rfl : c = 0 := Subsingleton.elim _ _
  refine (words_eq m _).trans (congrArg (argI m 0) (congrArg ix1 (Fin.ext ?_)))
  dsimp only
  rw [wordAt_val, firstNo_toNat, coord_val]
  omega

theorem word_last (t : Fin (cfgM m).N) (u : Fin 8) : words m (wordAt (lastNo (grid0.coords t) u) (lastNo_lt _ u)) = argI m c (ix1 ⟨2048 * t.val + 256 * u.val + 255, subRow_lt m t u 255⟩) := by
  obtain rfl : c = 0 := Subsingleton.elim _ _
  refine (words_eq m _).trans (congrArg (argI m 0) (congrArg ix1 (Fin.ext ?_)))
  dsimp only
  rw [wordAt_val, lastNo_toNat, coord_val]
  omega

theorem segs_row (t : Fin (cfgM m).N) (u : Fin 8) (r : Fin 256) : segs (block m c 0 t) u (ix2 r (0 : Fin 1)) = argI m c (ix1 ⟨2048 * t.val + 256 * u.val + r.val, subRow_lt m t u r⟩) := by
  refine (segs_at _ u r).trans ((block_segs m c t _).trans (congrArg (argI m c) (congrArg ix1 (Fin.ext ?_))))
  dsimp only
  omega

theorem prods_row (t : Fin (cfgM m).N) (u : Fin 8) (r : Fin 256) (d : Fin 512) :
    (prods (block m c 1 t) (block m c 2 t) u (ix2 r d) : EReal) = prod (argX m c) (argW m c) ⟨2048 * t.val + 256 * u.val + r.val, subRow_lt m t u r⟩ d := by
  refine (prods_at _ _ u r d).trans (Finset.sum_congr rfl fun k _ => congrArg₂ (fun a b : EReal => a * b) ?_ (block_weights m c t k d))
  refine (block_rows m c t _ k).trans (congrArg (argX m c) (ix_ext ?_ rfl))
  show 2048 * t.val + (256 * u.val + r.val) = 2048 * t.val + 256 * u.val + r.val
  omega

theorem top_row (t : Fin (cfgM m).N) (u : Fin 8) (n : Fin 16) (d : Fin 512) :
    top (prods (block m c 1 t) (block m c 2 t) u) (segs (block m c 0 t) u) (BitVec.ofNat 32 n.val) d
      = Finset.univ.sup fun r : Fin 256 => term (argX m c) (argW m c) (argI m c) n d (2048 * t.val + 256 * u.val + r.val) := by
  unfold top
  refine Finset.sup_congr rfl fun r _ => ?_
  rw [term_of_lt _ _ _ n d (subRow_lt m t u r), segs_row, prods_row]

variable (hT : ∀ y, BitVec.toNat (w := 32) (words m y) < 16)

/-- The greatest of what the first `N` rows put up, the argument arrays taken from the launch memory. -/
abbrev best (n : Fin 16) (d : Fin 512) (N : Nat) : EReal := upTo (argX m c) (argW m c) (argI m c) n d N

/-- A sub-block takes its rows in. -/
theorem sub_at (hup : Ascending m c) (t : Fin (cfgM m).N) (u : Fin 8) (X : Vec Ideal S16x512 .f32) (hX : ∀ n d, (X (ix2 n d) : EReal) = best m c n d (2048 * t.val + 256 * u.val))
    (n : Fin 16) (d : Fin 512) :
    (sub (grid0.coords t) (words m) hT (block m c 0 t) (block m c 1 t) (block m c 2 t) u X (ix2 n d) : EReal) = best m c n d (2048 * t.val + 256 * u.val + 256) := by
  refine (settle_at _ _ (hT _) (hT _) _ _ (fun r => ?_) X n d).trans ?_
  · rw [segs_row, word_first m c, word_last m c]
    exact ⟨hup _ _ _ (by omega), hup _ _ _ (by omega)⟩
  · rw [hX, top_row]
    exact (upTo_add _ _ _ n d _ 256).symm

/-- The eight sub-blocks of a point, one after another. -/
theorem subs_at (hup : Ascending m c) (t : Fin (cfgM m).N) (X : Vec Ideal S16x512 .f32) (hX : ∀ n d, (X (ix2 n d) : EReal) = best m c n d (2048 * t.val)) (n : Fin 16) (d : Fin 512) :
    (sub (grid0.coords t) (words m) hT (block m c 0 t) (block m c 1 t) (block m c 2 t) 7 (sub (grid0.coords t) (words m) hT (block m c 0 t) (block m c 1 t) (block m c 2 t) 6
      (sub (grid0.coords t) (words m) hT (block m c 0 t) (block m c 1 t) (block m c 2 t) 5 (sub (grid0.coords t) (words m) hT (block m c 0 t) (block m c 1 t) (block m c 2 t) 4
      (sub (grid0.coords t) (words m) hT (block m c 0 t) (block m c 1 t) (block m c 2 t) 3 (sub (grid0.coords t) (words m) hT (block m c 0 t) (block m c 1 t) (block m c 2 t) 2
      (sub (grid0.coords t) (words m) hT (block m c 0 t) (block m c 1 t) (block m c 2 t) 1 (sub (grid0.coords t) (words m) hT (block m c 0 t) (block m c 1 t) (block m c 2 t) 0 X)))))))
      (ix2 n d) : EReal) = best m c n d (2048 * (t.val + 1)) :=
  sub_at m c hT hup t 7 _ (sub_at m c hT hup t 6 _ (sub_at m c hT hup t 5 _ (sub_at m c hT hup t 4 _
    (sub_at m c hT hup t 3 _ (sub_at m c hT hup t 2 _ (sub_at m c hT hup t 1 _ (sub_at m c hT hup t 0 _ hX))))))) n d

theorem started_at (t : Fin (cfgM m).N) (h : t.val = 0) (X : Vec Ideal S16x512 .f32) (n : Fin 16) (d : Fin 512) :
    (started (grid0.coords t) X (ix2 n d) : EReal) = best m c n d (2048 * t.val) := by
  unfold started
  rw [if_pos ((isPoint_first t).mpr h), whole_overlay, h]
  exact minus_inf

theorem finish_at (t : Fin (cfgM m).N) (X : Vec Ideal S16x512 .f32) (n : Fin 16) (d : Fin 512) :
    (k0_pay5 (part whole X) (part wholeRow (block m c 3 t)) (part wholeRow (block m c 3 t)) (ix2 n d) : EReal)
      = max (X (ix2 n d)) (0 - argB m c (ix1 d)) + argB m c (ix1 d) := by
  have e : (part wholeRow (block m c 3 t) (ix2 (0 : Fin 1) d) : EReal) = argB m c (ix1 d) := by
    refine Eq.trans ?_ (block_bias m c t d)
    exact congrArg (block m c 3 t) (ix_ext (by show 0 + 1 * 0 = 0; omega) (by show 0 + 1 * d.val = d.val; omega))
  have e' : (part whole X (ix2 n d) : EReal) = X (ix2 n d) := congrArg X (whole_emb _)
  unfold k0_pay5
  pointwise
  rw [e, e']

/-- Before the last point: what the rows so far put up. -/
theorem outs_at (hup : Ascending m c) (k : Nat) (hk : k < 7) (n : Fin 16) (d : Fin 512) : (outs m hT c k (ix2 n d) : EReal) = best m c n d (2048 * (k + 1)) := by
  induction k generalizing n d with
  | zero =>
    let t : Fin (cfgM m).N := ⟨0, by show 0 < grid0.N; rw [N_0]; omega⟩
    refine (congrFun (step_eq m hT c t _) _).trans ?_
    unfold after finished
    rw [if_neg (fun h => by have h7 := (isPoint_last t).mp h; have h0 : t.val = 0 := rfl; omega)]
    exact subs_at m c hT hup t _ (started_at m c t rfl _) n d
  | succ k ih =>
    let t : Fin (cfgM m).N := ⟨k + 1, by show k + 1 < grid0.N; rw [N_0]; omega⟩
    refine (congrFun (step_eq m hT c t _) _).trans ?_
    unfold after finished
    rw [if_neg (fun h => by have h7 := (isPoint_last t).mp h; have hk' : t.val = k + 1 := rfl; omega),
      started_later (fun h => by have h0 := (isPoint_first t).mp h; have hk' : t.val = k + 1 := rfl; omega)]
    exact subs_at m c hT hup t _ (ih (by omega)) n d

/-- After the last point: with the bias added, and what is negative set to zero. -/
theorem outs_last (hup : Ascending m c) (n : Fin 16) (d : Fin 512) :
    (outs m hT c 7 (ix2 n d) : EReal) = max (best m c n d 16384) (0 - argB m c (ix1 d)) + argB m c (ix1 d) := by
  let t : Fin (cfgM m).N := last m
  refine (congrFun (step_eq m hT c t _) _).trans ?_
  unfold after finished
  rw [if_pos ((isPoint_last t).mpr rfl), started_later (fun h => by have h0 := (isPoint_first t).mp h; have h7 : t.val = 7 := rfl; omega), whole_overlay]
  refine (finish_at m c t _ n d).trans ?_
  rw [subs_at m c hT hup t _ (outs_at m c hT hup 6 (by omega)) n d]
  rfl

end Cert.KernelIdeal.Seg

end
-- ==== Proof.RefValue.lean ====
/- The idealized reference's result, element by element. -/
module

public import proofs.«01_k».proof.Proof.Spec
public import proofs.«01_k».proof.Proof.Gen.ReferenceIdeal
public import Idealize.ShloMosaic.Lib.Pointwise

@[expose] public section

set_option maxRecDepth 16384

noncomputable section

namespace Cert.RefValue

open Cert.ReferenceIdeal Cert.ReferenceIdeal.Gen Cert.ReferenceIdeal.Facts Cert.Spec
open Idealize.ShloMosaic Idealize.ShloMosaic.TcCoe Idealize.ShloMosaic.Tactic

variable (x : FVec Ideal S16384x256 .f32) (w : FVec Ideal S256x512 .f32) (b : FVec Ideal S512 .f32) (ids : IVec S16384 32)

/-- The rows after the product, the bias and the zero. -/
def hidden : FVec Ideal S16384x512 .f32 :=
  maximumf (addf (Host.dotGeneral dot_S16384x256_S256x512_S16384x512_1_0_0_1_n_n none x w)
      (broadcastInDim S16384x512 ![0, 1] bcast_S1x512_S16384x512_0_1 (broadcastInDim S1x512 ![1] bcast_S512_S1x512_1 b)))
    (broadcastInDim S16384x512 ![] bcast_S_S16384x512 (constant S_ .f32 0x00000000#32))

/-- Whether a row is a member of a segment. -/
def member : IVec S16x16384 1 :=
  cmpi .eq (broadcastInDim S16x16384 ![0, 1] bcast_S1x16384_S16x16384_0_1 (broadcastInDim S1x16384 ![1] bcast_S16384_S1x16384_1 ids))
    (broadcastInDim S16x16384 ![0, 1] bcast_S16x1_S16x16384_0_1 (broadcastInDim S16x1 ![0] bcast_S16_S16x1_0 (iotaInDim S16 32 0)))

/-- The greatest over the rows of the values of `H`, those that the mask leaves out taken as minus infinity. -/
def masked (M : IVec S16x16384 1) (H : FVec Ideal S16384x512 .f32) : FVec Ideal S16x512 .f32 :=
  Host.reduce FloatOps.maximumf
    (select (broadcastInDim S16x16384x512 ![0, 1, 2] bcast_S16x16384x1_S16x16384x512_0_1_2 (broadcastInDim S16x16384x1 ![0, 1] bcast_S16x16384_S16x16384x1_0_1 M))
      (broadcastInDim S16x16384x512 ![0, 1, 2] bcast_S1x16384x512_S16x16384x512_0_1_2 (broadcastInDim S1x16384x512 ![1, 2] bcast_S16384x512_S1x16384x512_1_2 H))
      (broadcastInDim S16x16384x512 ![] bcast_S_S16x16384x512 (constant S_ .f32 0xFF800000#32)))
    (constant S_ .f32 0xFF800000#32) reducesTo_S16x16384x512_S16x512_d1 h_S_

/-- Minus infinity replaced by zero. -/
def filled (G : FVec Ideal S16x512 .f32) : FVec Ideal S16x512 .f32 :=
  select (cmpf .oeq G (broadcastInDim S16x512 ![] bcast_S_S16x512 (constant S_ .f32 0xFF800000#32))) (broadcastInDim S16x512 ![] bcast_S_S16x512 (constant S_ .f32 0x00000000#32)) G

/-- The result: the greatest of the members' rows, an empty segment's set to zero. -/
def out : FVec Ideal S16x512 .f32 := filled (masked (member ids) (hidden x w b))

theorem hidden_at (R : Fin 16384) (d : Fin 512) : (hidden x w b (ix2 R d) : EReal) = act b d (prod x w R d) := by
  unfold hidden act prod
  pointwise

theorem member_at (n : Fin 16) (R : Fin 16384) : member ids (ix2 n R) = IntOp.cmpi .eq (ids (ix1 R)) (BitVec.ofNat 32 n.val) := by
  unfold member
  pointwise

theorem masked_at (M : IVec S16x16384 1) (H : FVec Ideal S16384x512 .f32) (n : Fin 16) (d : Fin 512) :
    (masked M H (ix2 n d) : EReal) = Finset.univ.sup fun R : Fin 16384 => Scalar.select (M (ix2 n R)) (H (ix2 R d) : EReal) ⊥ := by
  unfold masked
  pointwise
  rw [minus_inf]
  rfl

theorem filled_at (G : FVec Ideal S16x512 .f32) (n : Fin 16) (d : Fin 512) : (filled G (ix2 n d) : EReal) = if (G (ix2 n d) : EReal) = ⊥ then 0 else G (ix2 n d) := by
  unfold filled
  pointwise
  rw [minus_inf]

theorem greatest_at (n : Fin 16) (d : Fin 512) :
    (masked (member ids) (hidden x w b) (ix2 n d) : EReal) = Finset.univ.sup fun R : Fin 16384 => if ids (ix1 R) = BitVec.ofNat 32 n.val then act b d (prod x w R d) else ⊥ := by
  refine (masked_at (member ids) (hidden x w b) n d).trans (Finset.sup_congr rfl fun R _ => ?_)
  rw [member_at, hidden_at, select_eq]

theorem out_at (n : Fin 16) (d : Fin 512) : (out x w b ids (ix2 n d) : EReal) = act b d (Finset.univ.sup fun R : Fin 16384 => if ids (ix1 R) = BitVec.ofNat 32 n.val then prod x w R d else ⊥) := by
  refine (filled_at _ n d).trans ?_
  rw [greatest_at]
  exact act_sup (b := b) (fun R : Fin 16384 => ids (ix1 R) = BitVec.ofNat 32 n.val) (fun R => prod x w R d) d

end Cert.RefValue

end
-- ==== Proof.Value.lean ====
/- The idealized kernel and the idealized reference compute equal results. -/
module

public import proofs.«01_k».proof.Defs
public import proofs.«01_k».proof.Proof.Points
public import proofs.«01_k».proof.Proof.RefValue
public import proofs.«01_k».proof.Proof.Gen.ReferenceIdeal.Run

@[expose] public section

set_option maxRecDepth 16384

noncomputable section

namespace Cert.Value

open Cert.KernelIdeal Cert.KernelIdeal.Gen Cert.KernelIdeal.Seg Cert.Spec
open Idealize.ShloMosaic Idealize.ShloMosaic.TcCoe Idealize.ShloMosaic.Tactic Idealize.SL.Sem

variable (m : (ℓ : Loc nD τ sig) → Buf (Elt Ideal) ℓ) (ρ : Dev nD → PrngReg)

/-- The second result, which the operation after the grid leaves. -/
theorem tail_numbers (hT : ∀ y, BitVec.toNat (w := 32) (words m y) < 16) (c : Dev nD) :
    Pipeline.afterTail pcfgs (fun _ => adm m) (dats m hT) 0 (W0 m) [hostOps1] c main_v10 = (iotaInDim S16 32 0 : IVec S16 32) := by
  unfold Pipeline.afterTail
  rw [List.flatten_singleton]
  unfold hostOps1
  after_results

/-- What the kernel ends with: the output after the last point, the segments' numbers, and the arguments as they were. -/
theorem run_kernel (hT : ∀ y, BitVec.toNat (w := 32) (words m y) < 16) : θ_run defs (onTc (τ := τ) (main (F := Ideal))) ⟨m, fun _ => 0, ρ⟩ (fun r => ∀ c : Dev nD,
      r.2.mem ((c.tc : Thread nD τ).loc main_v9) = outs m hT c 7
      ∧ r.2.mem ((c.tc : Thread nD τ).loc main_v10) = (iotaInDim S16 32 0 : IVec S16 32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r hr c =>
    ⟨((hr.1 c).1 4).trans (out_final m hT c),
      ((hr.1 c).2 main_v10 (by exact (by decide : main_v10 ∈ Pipeline.restRefs sig spec0))).trans (tail_numbers m hT c),
      args_kept m hT hr.1 c⟩) (run_main m ρ hT)

/-- The kernel's result is the reference's. -/
theorem outs_eq (hT : ∀ y, BitVec.toNat (w := 32) (words m y) < 16) (c : Dev nD)
    (h : Cert.Pre_ids_sorted_bias_finite.fn (argX m c) (argW m c) (argB m c) (argI m c) = fun _ => 1#1) :
    outs m hT c 7 = RefValue.out (argX m c) (argW m c) (argB m c) (argI m c) := by
  funext y
  rw [eq_ix2 y]
  obtain ⟨hf, hf'⟩ := Cert.Given.finite_of_sorted h (ix1 (y 1))
  refine (outs_last m c hT (fun a b hb hab => Cert.Given.ascending h hab hb) (y 0) (y 1)).trans ?_
  rw [max_neg_add hf hf']
  refine Eq.trans ?_ (RefValue.out_at (argX m c) (argW m c) (argB m c) (argI m c) (y 0) (y 1)).symm
  refine congrArg (act (argB m c) (y 1)) ?_
  refine ((upTo_add (argX m c) (argW m c) (argI m c) (y 0) (y 1) 0 16384).trans (max_eq_right bot_le)).trans (Finset.sup_congr rfl fun R _ => ?_)
  rw [Nat.zero_add]
  exact term_of_lt _ _ _ (y 0) (y 1) R.isLt

theorem algebraic : Cert.algebraic_KernelIdeal_ReferenceIdeal_pre_ids_sorted_bias_finite := by
  intro m g m' g' hP hargs
  have hT := words_small m (Cert.Given.small_of_sorted (hP 0))
  refine ⟨fun c => outs m hT c 7, fun _ => (iotaInDim S16 32 0 : IVec S16 32), run_kernel m g hT, ?_⟩
  refine (θ_run Cert.ReferenceIdeal.defs _ _).mono (fun r hr c => ⟨?_, (hr c).2.1, (hr c).2.2⟩) (Cert.ReferenceIdeal.Value.run (F := Ideal) m' g')
  obtain ⟨h0, h1, h2, h3⟩ := hargs c
  refine (hr c).1.trans ?_
  rw [h0, h1, h2, h3]
  exact (outs_eq m hT c (hP c)).symm

end Cert.Value

end
-- ==== Proof.lean ====
/- The proof of the claims: the three frames, that the idealization changes nothing, and that the idealized kernel and the idealized reference compute equal results. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_ids_in_range
public import proofs.«01_k».proof.Proof.Gen.Pre_ids_sorted_bias_finite
public import proofs.«01_k».proof.Proof.Sorted
public import proofs.«01_k».proof.Proof.Same
public import proofs.«01_k».proof.Proof.Value

@[expose] public section

noncomputable section

namespace Cert.Proof

open Idealize.ShloMosaic Idealize.SL.Sem

theorem frame_reference : Cert.quiescent_ReferenceIdeal := fun m g _ =>
  (θ_run Cert.ReferenceIdeal.defs _ _).mono (fun r h => ⟨fun c => (h c).2.2, sem_eq_zero_of_no_sems (by decide) r.2⟩)
    (Cert.ReferenceIdeal.Value.run (F := Ideal) m g)

theorem frame_reference_sorted : Cert.quiescent_ReferenceIdeal_pre_ids_sorted_bias_finite := fun m g _ => frame_reference m g trivial

theorem frame_ideal_sorted : Cert.quiescent_KernelIdeal_pre_ids_sorted_bias_finite := fun m g h =>
  Cert.KernelIdeal.Seg.frame_of (F := Ideal) m g (Cert.KernelIdeal.Seg.words_small m (Cert.Given.small_of_sorted (h 0)))

theorem claim : Cert.Claim := ⟨Cert.Kernel.Gen.facts, Cert.KernelIdeal.Gen.facts, Cert.ReferenceIdeal.Gen.facts, Cert.Pre_ids_in_range.Gen.facts,
  Cert.Pre_ids_sorted_bias_finite.Gen.facts, Cert.Same.frame_kernel, Cert.Same.frame_ideal, frame_ideal_sorted, frame_reference, frame_reference_sorted, trivial,
  Cert.Value.algebraic⟩

end Cert.Proof

end
